-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_separated [hPre_separated : Cert.Pre_separated.Facts] (m : (ℓ : Loc Cert.KernelIdeal.nD Cert.KernelIdeal.τ Cert.KernelIdeal.sig) → Buf (Elt Ideal) ℓ) : Prop :=
  ∀ c : Dev Cert.KernelIdeal.nD,
    (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_separated [hPre_separated : Cert.Pre_separated.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_separated [hKernelIdeal : Cert.KernelIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_separated m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_separated [hReferenceIdeal : Cert.ReferenceIdeal.Facts] [hPre_separated : Cert.Pre_separated.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_separated m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "inv_t_ln2" .f32 0x41A4E123#32 (((100 / 7) * (Real.log 2)⁻¹ : ℝ) : EReal)
  ∧ IdealRules.named_const.Statement Cert.KernelIdeal.κ "inv_t" .f32 0x41649249#32 ((100 / 7 : ℝ) : EReal)

def algebraic_KernelIdeal_ReferenceIdeal_pre_separated [hKernelIdeal : Cert.KernelIdeal.Facts] [hReferenceIdeal : Cert.ReferenceIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_separated m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_separated : Cert.Pre_separated.Facts),
    quiescent_Kernel (hKernel := hKernel)
    ∧ quiescent_KernelIdeal (hKernelIdeal := hKernelIdeal)
    ∧ quiescent_KernelIdeal_pre_separated (hKernelIdeal := hKernelIdeal) (hPre_separated := hPre_separated)
    ∧ quiescent_ReferenceIdeal (hReferenceIdeal := hReferenceIdeal)
    ∧ quiescent_ReferenceIdeal_pre_separated (hReferenceIdeal := hReferenceIdeal) (hPre_separated := hPre_separated)
    ∧ preserves_Kernel_KernelIdeal
    ∧ algebraic_KernelIdeal_ReferenceIdeal_pre_separated (hKernelIdeal := hKernelIdeal) (hReferenceIdeal := hReferenceIdeal) (hPre_separated := hPre_separated)
-- ==== Pre_separated.lean ====
abbrev S4096x32 : Shape := ⟨2, ![4096, 32]⟩
abbrev S_ : Shape := ⟨0, ![]⟩
abbrev S4096 : Shape := ⟨1, ![4096]⟩
abbrev S4096x1 : Shape := ⟨2, ![4096, 1]⟩
abbrev S32x4096 : Shape := ⟨2, ![32, 4096]⟩
abbrev S4096x4096 : Shape := ⟨2, ![4096, 4096]⟩
abbrev S4096x129 : Shape := ⟨2, ![4096, 129]⟩

class Facts : Prop where
  reducesTo_S4096x32_S4096_d1 : S4096x32.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x32_0_1 : S4096x1.BroadcastsInDim S4096x32 (![0, 1] : Fin 2 → Fin S4096x32.rank)
  transposes_S4096x32_S32x4096_1_0 : S4096x32.Transposes [1, 0] S32x4096
  bcast_S_S4096x4096 : S_.BroadcastsInDim S4096x4096 (![] : Fin 0 → Fin S4096x4096.rank)
  reducesTo_S4096x4096_S4096_d1 : S4096x4096.ReducesTo [1] S4096
  bcast_S4096x1_S4096x4096_0_1 : S4096x1.BroadcastsInDim S4096x4096 (![0, 1] : Fin 2 → Fin S4096x4096.rank)
  sliceFits_S4096x4096_S4096x129 : S4096x4096.Slices (fun _ => 0) S4096x129
  slices_S4096x129_S4096x1_0_128 : S4096x129.Slices ![0, 128] S4096x1
  bcast_S_S4096 : S_.BroadcastsInDim S4096 (![] : Fin 0 → Fin S4096.rank)
  natLt_1_32 : 1 < 32
  dot_S4096x32_S32x4096_S4096x4096_1_0_0_1_n_n_wf : DotDims.WF S4096x32 S32x4096 S4096x4096 [1] [0] [0] [1] [] []

variable [Facts]

def dot_S4096x32_S32x4096_S4096x4096_1_0_0_1_n_n : DotDims S4096x32 S32x4096 S4096x4096 where
  lhsContracting := [1]
  rhsContracting := [0]
  lhsNonContracting := [0]
  rhsNonContracting := [1]
  lhsBatch := []
  rhsBatch := []
  wf := dot_S4096x32_S32x4096_S4096x4096_1_0_0_1_n_n_wf
def fn_norm {F : FTy → Type} [FloatOps F] (arg0 : FVec F S4096x32 .f32) : FVec F S4096x1 .f32 :=
  let v0 : FVec F S4096x32 .f32 := mulf arg0 arg0
  let cst : FVec F S_ .f32 := constant S_ .f32 0x00000000#32
  let v1 : FVec F S4096 .f32 := (fun x v => Host.reduceAdd x v reducesTo_S4096x32_S4096_d1 h_S_) v0 cst
  let v2 : FVec F S4096x1 .f32 := broadcastInDim S4096x1 ![0] bcast_S4096_S4096x1_0 v1
  let v3 : FVec F S4096x1 .f32 := Host.sqrt v2
  v3

def fn_where {F : FTy → Type} [FloatOps F] (arg0 : IVec S4096x4096 1) (arg1 : FVec F S4096x4096 .f32) (arg2 : FVec F S_ .f32) : FVec F S4096x4096 .f32 :=
  let v0 : FVec F S_ .f32 := id arg2
  let v1 : FVec F S4096x4096 .f32 := broadcastInDim S4096x4096 ![] bcast_S_S4096x4096 v0
  let v2 : FVec F S4096x4096 .f32 := select arg0 arg1 v1
  v2

def fn_part2 {F : FTy → Type} [FloatOps F] (main_v11 : FVec F S4096x4096 .f32) (main_v18 : FVec F S4096 .f32) (main_v31 : IVec S4096x4096 1) (main_values : FVec F S4096x129 .f32) (main_v36 : FVec F S4096x1 .f32) : IVec S4096 1 :=
  let main_v37 : FVec F S4096x1 .f32 := (extractStridedSlice S4096x1 ![0, 128] · slices_S4096x129_S4096x1_0_128) main_values
  let main_v38 : FVec F S4096x1 .f32 := subf main_v37 main_v36
  let main_v39 : FVec F S4096x4096 .f32 := broadcastInDim S4096x4096 ![0, 1] bcast_S4096x1_S4096x4096_0_1 main_v38
  let main_v40 : IVec S4096x4096 1 := cmpf .ogt main_v11 main_v39
  let main_v41 : IVec S4096x4096 1 := andi main_v31 main_v40
  let main_cst_7 : FVec F S_ .f32 := constant S_ .f32 0x00000000#32
  let main_v42 : FVec F S4096 .f32 := broadcastInDim S4096 ![] bcast_S_S4096 main_cst_7
  let main_v43 : IVec S4096 1 := cmpf .une main_v18 main_v42
  let main_v44 : IVec S4096x4096 32 := (extui 32 · natLt_1_32) main_v41
  let main_c_8 : IVec S_ 32 := constantI S_ 32 0#32
  let main_v45 : IVec S4096 32 := (fun x v => Host.reduce IntOp.addi x v reducesTo_S4096x4096_S4096_d1 h_S_) main_v44 main_c_8
  let main_c_9 : IVec S_ 32 := constantI S_ 32 129#32
  let main_v46 : IVec S4096 32 := broadcastInDim S4096 ![] bcast_S_S4096 main_c_9
  let main_v47 : IVec S4096 1 := cmpi .sle main_v45 main_v46
  let main_v48 : IVec S4096 1 := andi main_v43 main_v47
  main_v48

def fn_part1 {F : FTy → Type} [FloatOps F] (main_v11 : FVec F S4096x4096 .f32) (main_v16 : IVec S4096x4096 1) (main_v18 : FVec F S4096 .f32) : IVec S4096 1 :=
  let main_v19 : FVec F S4096x1 .f32 := broadcastInDim S4096x1 ![0] bcast_S4096_S4096x1_0 main_v18
  let main_cst_3 : FVec F S_ .f32 := constant S_ .f32 0x3F733333#32
  let main_v20 : FVec F S4096x1 .f32 := broadcastInDim S4096x1 ![] bcast_S_S4096x1 main_cst_3
  let main_v21 : FVec F S4096x1 .f32 := mulf main_v19 main_v20
  let main_v22 : FVec F S4096x1 .f32 := broadcastInDim S4096x1 ![0] bcast_S4096_S4096x1_0 main_v18
  let main_cst_4 : FVec F S_ .f32 := constant S_ .f32 0x3D4CCCCD#32
  let main_v23 : FVec F S4096x1 .f32 := broadcastInDim S4096x1 ![] bcast_S_S4096x1 main_cst_4
  let main_v24 : FVec F S4096x1 .f32 := mulf main_v22 main_v23
  let main_v25 : FVec F S4096x4096 .f32 := broadcastInDim S4096x4096 ![0, 1] bcast_S4096x1_S4096x4096_0_1 main_v21
  let main_v26 : IVec S4096x4096 1 := cmpf .ole main_v11 main_v25
  let main_v27 : FVec F S4096x4096 .f32 := broadcastInDim S4096x4096 ![0, 1] bcast_S4096x1_S4096x4096_0_1 main_v24
  let main_v28 : IVec S4096x4096 1 := cmpf .oge main_v11 main_v27
  let main_v29 : IVec S4096x4096 1 := andi main_v26 main_v28
  let main_v30 : IVec S4096x4096 1 := noti main_v16
  let main_v31 : IVec S4096x4096 1 := andi main_v29 main_v30
  let main_cst_5 : FVec F S_ .f32 := constant S_ .f32 0xFF800000#32
  let main_v32 : FVec F S4096x4096 .f32 := fn_where (F := F) main_v31 main_v11 main_cst_5
  let main_values : FVec F S4096x129 .f32 := (fun x => (Host.topK S4096x129 1 (FloatOps.cmpfTotal .gt) x sliceFits_S4096x4096_S4096x129).1) main_v32
  let main_indices : IVec S4096x129 32 := (fun x => (Host.topK S4096x129 1 (FloatOps.cmpfTotal .gt) x sliceFits_S4096x4096_S4096x129).2) main_v32
  let main_v33 : FVec F S4096x1 .f32 := broadcastInDim S4096x1 ![0] bcast_S4096_S4096x1_0 main_v18
  let main_v34 : FVec F S4096x1 .f32 := subf main_v33 main_v24
  let main_cst_6 : FVec F S_ .f32 := constant S_ .f32 0x46000000#32
  let main_v35 : FVec F S4096x1 .f32 := broadcastInDim S4096x1 ![] bcast_S_S4096x1 main_cst_6
  let main_v36 : FVec F S4096x1 .f32 := Host.divf main_v34 main_v35
  fn_part2 (F := F) main_v11 main_v18 main_v31 main_values main_v36

def fn {F : FTy → Type} [FloatOps F] (main_arg0 : FVec F S4096x32 .f32) (main_arg1 : FVec F S4096x32 .f32) : IVec S4096 1 :=
  let main_v0 : FVec F S4096x1 .f32 := fn_norm (F := F) main_arg0
  let main_cst : FVec F S_ .f32 := constant S_ .f32 0x2B8CBCCC#32
  let main_v1 : FVec F S4096x1 .f32 := broadcastInDim S4096x1 ![] bcast_S_S4096x1 main_cst
  let main_v2 : FVec F S4096x1 .f32 := maximumf main_v0 main_v1
  let main_v3 : FVec F S4096x32 .f32 := broadcastInDim S4096x32 ![0, 1] bcast_S4096x1_S4096x32_0_1 main_v2
  let main_v4 : FVec F S4096x32 .f32 := Host.divf main_arg0 main_v3
  let main_v5 : FVec F S4096x1 .f32 := fn_norm (F := F) main_arg1
  let main_cst_0 : FVec F S_ .f32 := constant S_ .f32 0x2B8CBCCC#32
  let main_v6 : FVec F S4096x1 .f32 := broadcastInDim S4096x1 ![] bcast_S_S4096x1 main_cst_0
  let main_v7 : FVec F S4096x1 .f32 := maximumf main_v5 main_v6
  let main_v8 : FVec F S4096x32 .f32 := broadcastInDim S4096x32 ![0, 1] bcast_S4096x1_S4096x32_0_1 main_v7
  let main_v9 : FVec F S4096x32 .f32 := Host.divf main_arg1 main_v8
  let main_v10 : FVec F S32x4096 .f32 := (transpose S32x4096 [1, 0] · transposes_S4096x32_S32x4096_1_0) main_v9
  let main_v11 : FVec F S4096x4096 .f32 := (fun l r => Host.dotGeneral dot_S4096x32_S32x4096_S4096x4096_1_0_0_1_n_n none l r) main_v4 main_v10
  let main_v12 : IVec S4096x4096 32 := iotaInDim S4096x4096 32 0
  let main_v13 : IVec S4096x4096 32 := iotaInDim S4096x4096 32 1
  let main_c : IVec S_ 32 := constantI S_ 32 0#32
  let main_v14 : IVec S4096x4096 32 := broadcastInDim S4096x4096 ![] bcast_S_S4096x4096 main_c
  let main_v15 : IVec S4096x4096 32 := addi main_v12 main_v14
  let main_v16 : IVec S4096x4096 1 := cmpi .eq main_v15 main_v13
  let main_cst_1 : FVec F S_ .f32 := constant S_ .f32 0x00000000#32
  let main_v17 : FVec F S4096x4096 .f32 := fn_where (F := F) main_v16 main_v11 main_cst_1
  let main_cst_2 : FVec F S_ .f32 := constant S_ .f32 0x00000000#32
  let main_v18 : FVec F S4096 .f32 := (fun x v => Host.reduceAdd x v reducesTo_S4096x4096_S4096_d1 h_S_) main_v17 main_cst_2
  fn_part1 (F := F) main_v11 main_v16 main_v18
-- ==== Kernel.lean ====
abbrev S4096x32 : Shape := ⟨2, ![4096, 32]⟩
abbrev S1x1 : Shape := ⟨2, ![1, 1]⟩
abbrev S512x32 : Shape := ⟨2, ![512, 32]⟩
abbrev S4096 : Shape := ⟨1, ![4096]⟩
abbrev S4096x1 : Shape := ⟨2, ![4096, 1]⟩
abbrev S512 : Shape := ⟨1, ![512]⟩
abbrev S512x1 : Shape := ⟨2, ![512, 1]⟩
abbrev S512x4096 : Shape := ⟨2, ![512, 4096]⟩
abbrev S512x512 : Shape := ⟨2, ![512, 512]⟩
abbrev S1x512x1 : Shape := ⟨3, ![1, 512, 1]⟩
abbrev S1 : Shape := ⟨1, ![1]⟩
abbrev S1x1x1 : Shape := ⟨3, ![1, 1, 1]⟩
abbrev S_ : Shape := ⟨0, ![]⟩

abbrev nBuf : Space → Nat
  | .hbm => 6
  | .vmem => 5
  | .smem => 0
  | _ => 0

abbrev bufTy : (tb : Table) → Fin (tcTables nBuf tb) → BufTy
  | .hbm, ⟨0, _⟩ => ⟨S4096x32, .f32⟩
  | .hbm, ⟨1, _⟩ => ⟨S4096x32, .f32⟩
  | .hbm, ⟨2, _⟩ => ⟨S1x1, .f32⟩
  | .hbm, ⟨3, _⟩ => ⟨S_, .f32⟩
  | .hbm, ⟨4, _⟩ => ⟨S_, .f32⟩
  | .hbm, ⟨5, _⟩ => ⟨S_, .f32⟩
  | .local _ .vmem, ⟨0, _⟩ => ⟨S512x32, .f32⟩
  | .local _ .vmem, ⟨1, _⟩ => ⟨S512x32, .f32⟩
  | .local _ .vmem, ⟨2, _⟩ => ⟨S4096x32, .f32⟩
  | .local _ .vmem, ⟨3, _⟩ => ⟨S1x1, .f32⟩
  | .local _ .vmem, ⟨4, _⟩ => ⟨S4096x32, .f32⟩
  | _, _ => ⟨S4096x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let arg0 : BitVec 32 := BitVec.ofNat 32 (i 0).val
  let c512_i32 : BitVec 32 := 512#32
  let v14 : BitVec 32 := Scalar.muli arg0 c512_i32
  let v15 : Index := Scalar.indexCast v14
  let c0_6 : Index := 0#32
  ![v15.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== KernelIdeal.lean ====
variable {F : FTy → Type} [FloatOps F] [Named F]
def κ : String → Option EReal := fun
  | "inv_t" => some ((100 / 7 : ℝ) : EReal)
  | "inv_t_ln2" => some (((100 / 7) * (Real.log 2)⁻¹ : ℝ) : EReal)
  | _ => none
-- ==== ReferenceIdeal.lean ====
abbrev S4096x32 : Shape := ⟨2, ![4096, 32]⟩
abbrev S_ : Shape := ⟨0, ![]⟩
abbrev S4096 : Shape := ⟨1, ![4096]⟩
abbrev S4096x1 : Shape := ⟨2, ![4096, 1]⟩
abbrev S32x4096 : Shape := ⟨2, ![32, 4096]⟩
abbrev S4096x4096 : Shape := ⟨2, ![4096, 4096]⟩
abbrev S4096x129 : Shape := ⟨2, ![4096, 129]⟩
abbrev S4096x129x1 : Shape := ⟨3, ![4096, 129, 1]⟩
abbrev S4096x129x2 : Shape := ⟨3, ![4096, 129, 2]⟩

abbrev nBuf : Space → Nat
  | .hbm => 120
  | .vmem => 0
  | .smem => 0
  | _ => 0

abbrev bufTy : (tb : Table) → Fin (tcTables nBuf tb) → BufTy
  | .hbm, ⟨0, _⟩ => ⟨S4096x32, .f32⟩
  | .hbm, ⟨1, _⟩ => ⟨S4096x32, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S4096x32, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x32, .f32⟩
  | .hbm, ⟨14, _⟩ => ⟨S4096x32, .f32⟩
  | .hbm, ⟨15, _⟩ => ⟨S4096x32, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x32, .f32⟩
  | .hbm, ⟨24, _⟩ => ⟨S4096x32, .f32⟩
  | .hbm, ⟨25, _⟩ => ⟨S32x4096, .f32⟩
  | .hbm, ⟨26, _⟩ => ⟨S4096x4096, .f32⟩
  | .hbm, ⟨27, _⟩ => ⟨S4096x4096, .i32⟩
  | .hbm, ⟨28, _⟩ => ⟨S4096x4096, .i32⟩
  | .hbm, ⟨29, _⟩ => ⟨S_, .i32⟩
  | .hbm, ⟨30, _⟩ => ⟨S4096x4096, .i32⟩
  | .hbm, ⟨31, _⟩ => ⟨S4096x4096, .i32⟩
  | .hbm, ⟨32, _⟩ => ⟨S4096x4096, .i1⟩
  | .hbm, ⟨33, _⟩ => ⟨S_, .f32⟩
  | .hbm, ⟨34, _⟩ => ⟨S_, .f32⟩
  | .hbm, ⟨35, _⟩ => ⟨S4096x4096, .f32⟩
  | .hbm, ⟨36, _⟩ => ⟨S4096x4096, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S4096x4096, .f32⟩
  | .hbm, ⟨48, _⟩ => ⟨S4096x4096, .i1⟩
  | .hbm, ⟨49, _⟩ => ⟨S4096x4096, .f32⟩
  | .hbm, ⟨50, _⟩ => ⟨S4096x4096, .i1⟩
  | .hbm, ⟨51, _⟩ => ⟨S4096x4096, .i1⟩
  | .hbm, ⟨52, _⟩ => ⟨S4096x4096, .i1⟩
  | .hbm, ⟨53, _⟩ => ⟨S4096x4096, .i1⟩
  | .hbm, ⟨54, _⟩ => ⟨S_, .f32⟩
  | .hbm, ⟨55, _⟩ => ⟨S_, .f32⟩
  | .hbm, ⟨56, _⟩ => ⟨S4096x4096, .f32⟩
  | .hbm, ⟨57, _⟩ => ⟨S4096x4096, .f32⟩
  | .hbm, ⟨58, _⟩ => ⟨S4096x129, .f32⟩
  | .hbm, ⟨59, _⟩ => ⟨S4096x129, .i32⟩
  | .hbm, ⟨60, _⟩ => ⟨S4096, .i32⟩
  | .hbm, ⟨61, _⟩ => ⟨S4096x1, .i32⟩
  | .hbm, ⟨62, _⟩ => ⟨S_, .i1⟩
  | .hbm, ⟨63, _⟩ => ⟨S4096x4096, .i1⟩
  | .hbm, ⟨64, _⟩ => ⟨S_, .i32⟩
  | .hbm, ⟨65, _⟩ => ⟨S4096x1, .i32⟩
  | .hbm, ⟨66, _⟩ => ⟨S4096x1, .i1⟩
  | .hbm, ⟨67, _⟩ => ⟨S_, .i32⟩
  | .hbm, ⟨68, _⟩ => ⟨S4096x1, .i32⟩
  | .hbm, ⟨69, _⟩ => ⟨S4096x1, .i32⟩
  | .hbm, ⟨70, _⟩ => ⟨S4096x1, .i32⟩
  | .hbm, ⟨71, _⟩ => ⟨S_, .i32⟩
  | .hbm, ⟨72, _⟩ => ⟨S4096x129, .i32⟩
  | .hbm, ⟨73, _⟩ => ⟨S4096x129, .i1⟩
  | .hbm, ⟨74, _⟩ => ⟨S_, .i32⟩
  | .hbm, ⟨75, _⟩ => ⟨S4096x129, .i32⟩
  | .hbm, ⟨76, _⟩ => ⟨S4096x129, .i32⟩
  | .hbm, ⟨77, _⟩ => ⟨S4096x129, .i32⟩
  | .hbm, ⟨78, _⟩ => ⟨S4096x129, .i32⟩
  | .hbm, ⟨79, _⟩ => ⟨S4096x129x1, .i32⟩
  | .hbm, ⟨80, _⟩ => ⟨S4096x129x1, .i32⟩
  | .hbm, ⟨81, _⟩ => ⟨S4096x129x2, .i32⟩
  | .hbm, ⟨82, _⟩ => ⟨S_, .i1⟩
  | .hbm, ⟨83, _⟩ => ⟨S4096x129, .i1⟩
  | .hbm, ⟨84, _⟩ => ⟨S4096x4096, .i1⟩
  | .hbm, ⟨85, _⟩ => ⟨S4096x4096, .i1⟩
  | .hbm, ⟨86, _⟩ => ⟨S4096x4096, .i1⟩
  | .hbm, ⟨87, _⟩ => ⟨S4096x4096, .i1⟩
  | .hbm, ⟨88, _⟩ => ⟨S4096x4096, .f32⟩
  | .hbm, ⟨89, _⟩ => ⟨S4096x4096, .f32⟩
  | .hbm, ⟨90, _⟩ => ⟨S_, .f32⟩
  | .hbm, ⟨91, _⟩ => ⟨S_, .f32⟩
  | .hbm, ⟨92, _⟩ => ⟨S4096x4096, .f32⟩
  | .hbm, ⟨93, _⟩ => ⟨S4096x4096, .f32⟩
  | .hbm, ⟨94, _⟩ => ⟨S4096x4096, .f32⟩
  | .hbm, ⟨95, _⟩ => ⟨S_, .f32⟩
  | .hbm, ⟨96, _⟩ => ⟨S4096, .f32⟩
  | .hbm, ⟨97, _⟩ => ⟨S4096, .f32⟩
  | .hbm, ⟨98, _⟩ => ⟨S4096, .f32⟩
  | .hbm, ⟨99, _⟩ => ⟨S4096, .f32⟩
  | .hbm, ⟨100, _⟩ => ⟨S4096, .f32⟩
  | .hbm, ⟨101, _⟩ => ⟨S_, .i1⟩
  | .hbm, ⟨102, _⟩ => ⟨S4096, .i1⟩
  | .hbm, ⟨103, _⟩ => ⟨S4096, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S4096, .f32⟩
  | .hbm, ⟨109, _⟩ => ⟨S4096, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S_, .i1⟩
  | .hbm, ⟨114, _⟩ => ⟨S_, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S_, .f32⟩
  | .hbm, ⟨119, _⟩ => ⟨S_, .f32⟩
  | _, _ => ⟨S4096x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_call0_v2 : Ref sig .tc := ⟨.hbm, 8, rfl⟩
abbrev main_v1 : Ref sig .tc := ⟨.hbm, 9, rfl⟩
abbrev main_cst_1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_call1_v0 : Ref sig .tc := ⟨.hbm, 15, rfl⟩
abbrev main_call1_cst : Ref sig .tc := ⟨.hbm, 16, rfl⟩
abbrev main_call1_v1 : Ref sig .tc := ⟨.hbm, 17, rfl⟩
abbrev main_call1_v2 : Ref sig .tc := ⟨.hbm, 18, rfl⟩
abbrev main_v6 : Ref sig .tc := ⟨.hbm, 19, rfl⟩
abbrev main_cst_2 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_call2_v0 : Ref sig .tc := ⟨.hbm, 34, rfl⟩
abbrev main_call2_v1 : Ref sig .tc := ⟨.hbm, 35, rfl⟩
abbrev main_v18 : Ref sig .tc := ⟨.hbm, 36, rfl⟩
abbrev main_cst_4 : Ref sig .tc := ⟨.hbm, 37, rfl⟩
abbrev main_v19 : Ref sig .tc := ⟨.hbm, 38, rfl⟩
abbrev main_v20 : Ref sig .tc := ⟨.hbm, 39, rfl⟩
abbrev main_cst_5 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_6 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_7 : Ref sig .tc := ⟨.hbm, 54, rfl⟩
abbrev main_call3_v0 : Ref sig .tc := ⟨.hbm, 55, rfl⟩
abbrev main_call3_v1 : Ref sig .tc := ⟨.hbm, 56, rfl⟩
abbrev main_v33 : Ref sig .tc := ⟨.hbm, 57, rfl⟩
abbrev main_values : Ref sig .tc := ⟨.hbm, 58, rfl⟩
abbrev main_indices : Ref sig .tc := ⟨.hbm, 59, rfl⟩
abbrev main_v34 : Ref sig .tc := ⟨.hbm, 60, rfl⟩
abbrev main_v35 : Ref sig .tc := ⟨.hbm, 61, rfl⟩
abbrev main_c_8 : Ref sig .tc := ⟨.hbm, 62, rfl⟩
abbrev main_v36 : Ref sig .tc := ⟨.hbm, 63, rfl⟩
abbrev main_c_9 : Ref sig .tc := ⟨.hbm, 64, rfl⟩
abbrev main_v37 : Ref sig .tc := ⟨.hbm, 65, rfl⟩
abbrev main_v38 : Ref sig .tc := ⟨.hbm, 66, rfl⟩
abbrev main_c_10 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_c_11 : Ref sig .tc := ⟨.hbm, 71, rfl⟩
abbrev main_v42 : Ref sig .tc := ⟨.hbm, 72, rfl⟩
abbrev main_v43 : Ref sig .tc := ⟨.hbm, 73, rfl⟩
abbrev main_c_12 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_c_13 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_cst_14 : Ref sig .tc := ⟨.hbm, 90, rfl⟩
abbrev main_call4_v0 : Ref sig .tc := ⟨.hbm, 91, rfl⟩
abbrev main_call4_v1 : Ref sig .tc := ⟨.hbm, 92, rfl⟩
abbrev main_v58 : Ref sig .tc := ⟨.hbm, 93, rfl⟩
abbrev main_v59 : Ref sig .tc := ⟨.hbm, 94, rfl⟩
abbrev main_cst_15 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_c_16 : Ref sig .tc := ⟨.hbm, 101, rfl⟩
abbrev main_v65 : Ref sig .tc := ⟨.hbm, 102, rfl⟩
abbrev main_v66 : Ref sig .tc := ⟨.hbm, 103, rfl⟩
abbrev main_cst_17 : Ref sig .tc := ⟨.hbm, 104, rfl⟩
abbrev main_v67 : Ref sig .tc := ⟨.hbm, 105, rfl⟩
abbrev main_cst_18 : Ref sig .tc := ⟨.hbm, 106, rfl⟩
abbrev main_call5_v0 : Ref sig .tc := ⟨.hbm, 107, rfl⟩
abbrev main_call5_v1 : Ref sig .tc := ⟨.hbm, 108, rfl⟩
abbrev main_v68 : Ref sig .tc := ⟨.hbm, 109, rfl⟩
abbrev main_cst_19 : Ref sig .tc := ⟨.hbm, 110, rfl⟩
abbrev main_v69 : Ref sig .tc := ⟨.hbm, 111, rfl⟩
abbrev main_cst_20 : Ref sig .tc := ⟨.hbm, 112, rfl⟩
abbrev main_v70 : Ref sig .tc := ⟨.hbm, 113, rfl⟩
abbrev main_cst_21 : Ref sig .tc := ⟨.hbm, 114, rfl⟩
abbrev main_v71 : Ref sig .tc := ⟨.hbm, 115, rfl⟩
abbrev main_v72 : Ref sig .tc := ⟨.hbm, 116, rfl⟩
abbrev main_cst_22 : Ref sig .tc := ⟨.hbm, 117, rfl⟩
abbrev main_call6_v0 : Ref sig .tc := ⟨.hbm, 118, rfl⟩
abbrev main_v73 : Ref sig .tc := ⟨.hbm, 119, rfl⟩

abbrev nD : Nat := 1
abbrev τ : Topo := Topo.v7x

variable {F : FTy → Type} [FloatOps F]
-- ==== Proof.RowMath.lean ====
/- One row of the loss, over the reals: what a bisection over thirteen halvings finds among a row's masked scores, what a
   selection of the 129 largest (lowest column first among equals) takes, and that the two agree. -/
module

public import Idealize.ShloMosaic.Lib.Pointwise

@[expose] public section

noncomputable section

namespace Cert.Row

open Finset

variable {n : ℕ}

/-- How many columns of a row are at least `t`. -/
def cnt (v : Fin n → ℝ) (t : ℝ) : ℕ := (univ.filter fun j => t ≤ v j).card

/-- One halving of the bracket: the upper half when at least 129 columns reach the middle, else the lower. -/
def halve (v : Fin n → ℝ) (b : ℝ × ℝ) : ℝ × ℝ :=
  if 129 ≤ cnt v ((1 / 2) * (b.1 + b.2)) then ((1 / 2) * (b.1 + b.2), b.2) else (b.1, (1 / 2) * (b.1 + b.2))

/-- The masked row: the score where the mask holds, `-2` elsewhere. -/
def fillNeg (s : Fin n → ℝ) (m : Fin n → Prop) [DecidablePred m] (j : Fin n) : ℝ := if m j then s j else -2

/-- The row as the selection sees it: `-∞` where the mask does not hold. -/
def cand (s : Fin n → ℝ) (m : Fin n → Prop) [DecidablePred m] (j : Fin n) : EReal := if m j then (s j : EReal) else ⊥

/-- `T` is a choice of the 129 largest entries, the lowest column first among equals. -/
def IsTop (v : Fin n → EReal) (T : Finset (Fin n)) : Prop :=
  T.card = 129 ∧ ∀ a ∈ T, ∀ b, b ∉ T → v b < v a ∨ (v a = v b ∧ a < b)

/-- The width of the bracket halves each time, whichever half is kept. -/
theorem halve_width (v : Fin n → ℝ) (b : ℝ × ℝ) : (halve v b).2 - (halve v b).1 = (b.2 - b.1) / 2 := by
  unfold halve; split <;> dsimp only <;> ring

theorem iter_width (v : Fin n → ℝ) (k : ℕ) (b : ℝ × ℝ) :
    ((halve v)^[k] b).2 - ((halve v)^[k] b).1 = (b.2 - b.1) / 2 ^ k := by
  induction k with
  | zero => simp
  | succ k ih => rw [Function.iterate_succ_apply', halve_width, ih, pow_succ]; field_simp

theorem iter_ge (v : Fin n → ℝ) (k : ℕ) (b : ℝ × ℝ) (h : 129 ≤ cnt v b.1) : 129 ≤ cnt v ((halve v)^[k] b).1 := by
  induction k with
  | zero => exact h
  | succ k ih => rw [Function.iterate_succ_apply', halve]; split <;> assumption

theorem iter_lt (v : Fin n → ℝ) (k : ℕ) (b : ℝ × ℝ) (h : cnt v b.2 < 129) : cnt v ((halve v)^[k] b).2 < 129 := by
  induction k with
  | zero => exact h
  | succ k ih => rw [Function.iterate_succ_apply', halve]; split <;> first | assumption | exact not_le.mp (by assumption)

/-- A bracket that starts above zero stays above zero. -/
theorem iter_pos (v : Fin n → ℝ) (k : ℕ) (b : ℝ × ℝ) (c : ℝ) (h : c < b.1 ∧ c < b.2) :
    c < ((halve v)^[k] b).1 ∧ c < ((halve v)^[k] b).2 := by
  induction k with
  | zero => exact h
  | succ k ih =>
    rw [Function.iterate_succ_apply', halve]
    obtain ⟨h1, h2⟩ := ih
    split <;> dsimp only <;> constructor <;> linarith

/-- When fewer than 129 columns lie above `-2`, the lower end never moves. -/
theorem iter_stay (v : Fin n → ℝ) (k : ℕ) (b : ℝ × ℝ) (h : (-2 : ℝ) < b.1 ∧ (-2 : ℝ) < b.2)
    (hc : ∀ t : ℝ, -2 < t → cnt v t < 129) : ((halve v)^[k] b).1 = b.1 := by
  induction k with
  | zero => rfl
  | succ k ih =>
    have hp := iter_pos v k b (-2) h
    rw [Function.iterate_succ_apply', halve]
    rw [if_neg]
    · exact ih
    · have := hc ((1 / 2) * (((halve v)^[k] b).1 + ((halve v)^[k] b).2)) (by linarith [hp.1, hp.2])
      omega

section Select

variable (s : Fin n → ℝ) (m : Fin n → Prop) [DecidablePred m] (T : Finset (Fin n))

theorem le_fillNeg {t : ℝ} (ht : -2 < t) (j : Fin n) : t ≤ fillNeg s m j ↔ m j ∧ t ≤ s j := by
  unfold fillNeg; split
  · rename_i h; simp [h]
  · rename_i h; simp only [h, false_and, iff_false, not_le]; exact ht

/-- With 129 columns in the mask or more, the selection stays inside the mask. -/
theorem top_sub_mask (hT : IsTop (cand s m) T) (hn : 129 ≤ (univ.filter m).card) : ∀ a ∈ T, m a := by
  intro a ha
  by_contra hma
  have hsub : univ.filter m ⊆ T := by
    intro b hb
    by_contra hbT
    have hmb : m b := (mem_filter.mp hb).2
    rcases hT.2 a ha b hbT with h | h
    · simp [cand, hma] at h
    · simp [cand, hma, hmb] at h
  have : insert a (univ.filter m) ⊆ T := insert_subset ha hsub
  have h2 := card_le_card this
  rw [card_insert_of_notMem (by simp [hma]), hT.1] at h2
  omega

/-- The bisection's threshold cuts off exactly the selection. -/
theorem cut_eq_top (hT : IsTop (cand s m) T) {t w : ℝ} (ht : -2 < t) (hw : 0 ≤ w)
    (hlo : 129 ≤ cnt (fillNeg s m) t) (hhi : cnt (fillNeg s m) (t + w) < 129) {κ : EReal}
    (hκ : ∃ a ∈ T, cand s m a = κ)
    (hmin : ∀ b ∈ T, κ ≤ cand s m b)
    (hsep : (univ.filter fun j => m j ∧ κ - (w : EReal) < (s j : EReal)).card ≤ 129) :
    (univ.filter fun j => t ≤ fillNeg s m j) = T := by
  have hn : 129 ≤ (univ.filter m).card := by
    refine hlo.trans (card_le_card fun j hj => ?_)
    simp only [mem_filter, mem_univ, true_and] at hj ⊢
    exact ((le_fillNeg s m ht j).mp hj).1
  have hTm := top_sub_mask s m T hT hn
  obtain ⟨a₀, ha₀, rfl⟩ := hκ
  have hc : ∀ a ∈ T, cand s m a = (s a : EReal) := fun a ha => by simp [cand, hTm a ha]
  rw [hc a₀ ha₀] at hmin hsep
  -- the least selected score lies under the bracket's upper end
  have hlt : s a₀ < t + w := by
    by_contra hge
    push Not at hge
    have : T ⊆ univ.filter fun j => t + w ≤ fillNeg s m j := fun b hb => by
      simp only [mem_filter, mem_univ, true_and]
      have h1 := hmin b hb
      rw [hc b hb] at h1
      rw [le_fillNeg s m (by linarith)]
      exact ⟨hTm b hb, hge.trans (EReal.coe_le_coe_iff.mp h1)⟩
    have := card_le_card this
    rw [hT.1] at this
    unfold cnt at hhi
    omega
  have hle : (univ.filter fun j => t ≤ fillNeg s m j).card ≤ 129 := by
    refine le_trans (card_le_card fun j hj => ?_) hsep
    simp only [mem_filter, mem_univ, true_and] at hj ⊢
    obtain ⟨h1, h2⟩ := (le_fillNeg s m ht j).mp hj
    refine ⟨h1, ?_⟩
    rw [← EReal.coe_sub]
    exact EReal.coe_lt_coe_iff.mpr (by linarith)
  have hsub : T ⊆ univ.filter fun j => t ≤ fillNeg s m j := by
    intro a ha
    simp only [mem_filter, mem_univ, true_and]
    by_contra hna
    have hsa : s a < t := by
      by_contra h
      exact hna ((le_fillNeg s m ht a).mpr ⟨hTm a ha, not_lt.mp h⟩)
    have hin : (univ.filter fun j => t ≤ fillNeg s m j) ⊆ T := by
      intro b hb
      by_contra hbT
      simp only [mem_filter, mem_univ, true_and] at hb
      obtain ⟨h1, h2⟩ := (le_fillNeg s m ht b).mp hb
      have hcb : cand s m b = (s b : EReal) := by simp [cand, h1]
      rcases hT.2 a ha b hbT with h | h
      · rw [hcb, hc a ha] at h
        have := EReal.coe_lt_coe_iff.mp h
        linarith
      · rw [hcb, hc a ha] at h
        have := EReal.coe_eq_coe_iff.mp h.1
        linarith
    have h3 : insert a (univ.filter fun j => t ≤ fillNeg s m j) ⊆ T := insert_subset ha hin
    have h4 := card_le_card h3
    rw [card_insert_of_notMem (by simpa using hna), hT.1] at h4
    unfold cnt at hlo
    omega
  exact (eq_of_subset_of_card_le hsub (by rw [hT.1]; exact hle)).symm

/-- How many columns up to `j` among the first 512 lie outside the mask. -/
def rank (j : Fin n) : ℕ := (univ.filter fun k : Fin n => k.val < 512 ∧ k ≤ j ∧ ¬ m k).card

/-- The columns the kernel fills a short row with: of the first 512, those outside the mask, lowest first, until 129. -/
def fill : Finset (Fin n) :=
  univ.filter fun j => j.val < 512 ∧ ¬ m j ∧ rank m j ≤ 129 - (univ.filter m).card

/-- With fewer than 129 columns in the mask, the selection is the mask and the fill. -/
theorem top_eq_fill (hn512 : 512 ≤ n) (hT : IsTop (cand s m) T) (hn : (univ.filter m).card < 129) :
    T = univ.filter m ∪ fill m := by
  classical
  have hout : ∃ a ∈ T, ¬ m a := by
    by_contra h
    push Not at h
    have : T ⊆ univ.filter m := fun a ha => by simpa using h a ha
    have := card_le_card this
    rw [hT.1] at this
    omega
  obtain ⟨a₀, ha₀, hma₀⟩ := hout
  have hmT : univ.filter m ⊆ T := by
    intro b hb
    by_contra hbT
    have hmb : m b := (mem_filter.mp hb).2
    rcases hT.2 a₀ ha₀ b hbT with h | h
    · simp [cand, hma₀] at h
    · simp [cand, hma₀, hmb] at h
  -- outside the mask the selection goes by column
  have hdown : ∀ a ∈ T, ¬ m a → ∀ b, ¬ m b → b ≤ a → b ∈ T := by
    intro a ha hma b hmb hba
    by_contra hbT
    rcases hT.2 a ha b hbT with h | h
    · simp [cand, hma] at h
    · exact absurd h.2 (not_lt.mpr hba)
  have hcard : (T.filter fun a => ¬ m a).card = 129 - (univ.filter m).card := by
    have h1 := card_filter_add_card_filter_not (s := T) m
    have h2 : T.filter m = univ.filter m := by
      ext b
      simp only [mem_filter, mem_univ, true_and]
      exact ⟨fun h => h.2, fun h => ⟨hmT (by simpa using h), h⟩⟩
    rw [h2, hT.1] at h1
    omega
  have hfew : ∀ a ∈ T, ¬ m a → a.val < 512 := by
    intro a ha hma
    by_contra hge
    push Not at hge
    have h1 : (univ.filter fun k : Fin n => k.val < 512) ⊆ univ.filter m ∪ T.filter fun a => ¬ m a := by
      intro k hk
      simp only [mem_filter, mem_univ, true_and, mem_union] at hk ⊢
      by_cases hmk : m k
      · exact Or.inl hmk
      · exact Or.inr ⟨hdown a ha hma k hmk (Fin.le_def.mpr (by omega)), hmk⟩
    have h2 := (card_le_card h1).trans (card_union_le _ _)
    rw [hcard] at h2
    have h3 : (univ.filter fun k : Fin n => k.val < 512).card = 512 := by
      rw [Fin.card_filter_val_lt]; omega
    omega
  ext j
  simp only [mem_union, mem_filter, mem_univ, true_and, fill]
  by_cases hmj : m j
  · simp only [hmj, true_or, iff_true]; exact hmT (by simpa using hmj)
  · simp only [hmj, false_or, not_false_eq_true, true_and]
    constructor
    · intro hj
      refine ⟨hfew j hj hmj, ?_⟩
      rw [← hcard]
      refine card_le_card fun k hk => ?_
      simp only [mem_filter, mem_univ, true_and] at hk ⊢
      exact ⟨hdown j hj hmj k hk.2.2 hk.2.1, hk.2.2⟩
    · rintro ⟨h512, hr⟩
      by_contra hj
      have h1 : insert j (T.filter fun a => ¬ m a) ⊆ univ.filter fun k : Fin n => k.val < 512 ∧ k ≤ j ∧ ¬ m k := by
        intro k hk
        simp only [mem_insert, mem_filter, mem_univ, true_and] at hk ⊢
        rcases hk with rfl | ⟨hk, hmk⟩
        · exact ⟨h512, le_rfl, hmj⟩
        · refine ⟨hfew k hk hmk, ?_, hmk⟩
          by_contra hjk
          exact hj (hdown k hk hmk j hmj (not_le.mp hjk).le)
      have h2 := card_le_card h1
      rw [card_insert_of_notMem (by simp [hj]), hcard] at h2
      unfold rank at hr
      omega

end Select

/-- The band of the semi-hard negatives of a row with positive score `p`. -/
def Band (bot top p : ℝ) (s : Fin n → ℝ) (j : Fin n) : Prop := bot * p ≤ s j ∧ s j ≤ top * p

instance (bot top p : ℝ) (s : Fin n → ℝ) : DecidablePred (Band bot top p s) := fun j => by
  unfold Band; infer_instance

/-- The kernel's sum of exponentials for one row `i` of scores `s`, whose positive score is `p`. -/
def kerSum (bot top : ℝ) (e : ℝ → ℝ) (s : Fin n → ℝ) (p : ℝ) (i : Fin n) : ℝ :=
  let m := Band bot top p s
  let t := ((halve (fillNeg s m))^[13] (bot * p, p)).1
  let c : ℝ := ∑ j, if t ≤ fillNeg s m j then 1 else 0
  if 129 ≤ c then (∑ j, if t ≤ fillNeg s m j then e (s j) else 0) + (129 - c) * e t + e p
  else (∑ j, if m j then e (s j) else 0) + e p
    + ∑ j, if j.val < 512 ∧ ¬ m j ∧ (rank m j : ℝ) ≤ 129 - c ∧ j ≠ i then e (s j) else 0

/-- The reference's sum of exponentials, given which columns it selected. -/
def refSum (e : ℝ → ℝ) (s : Fin n → ℝ) (T : Finset (Fin n)) (i : Fin n) : ℝ :=
  ∑ j, if (j ∈ T ∧ j ≠ i) ∨ j = i then e (s j) else 0

/-- What the precondition says of one row: the positive score is not zero, and at most 129 columns of the mask lie above
    the least selected score less the width of the last bracket. -/
def Sep (bot : ℝ) (s : Fin n → ℝ) (m : Fin n → Prop) [DecidablePred m] (p : ℝ) (κ : EReal) : Prop :=
  p ≠ 0 ∧ (univ.filter fun j => m j ∧ κ - (((p - p * bot) / 2 ^ 13 : ℝ) : EReal) < (s j : EReal)).card ≤ 129

theorem ref_split (e : ℝ → ℝ) (s : Fin n → ℝ) (T : Finset (Fin n)) (i : Fin n) :
    refSum e s T i = (∑ j, if j ∈ T ∧ j ≠ i then e (s j) else 0) + e (s i) := by
  unfold refSum
  have h : ∀ j, (if (j ∈ T ∧ j ≠ i) ∨ j = i then e (s j) else 0)
      = (if j ∈ T ∧ j ≠ i then e (s j) else 0) + (if j = i then e (s j) else 0) := by
    intro j
    by_cases hj : j = i <;> simp [hj]
  rw [sum_congr rfl fun j _ => h j, sum_add_distrib]
  simp

theorem sum_one_eq_cnt (v : Fin n → ℝ) (t : ℝ) : (∑ j, if t ≤ v j then (1 : ℝ) else 0) = (cnt v t : ℝ) := by
  unfold cnt; rw [sum_boole]

/-- THE ROW: the kernel's sum is the reference's. -/
theorem kerSum_eq_refSum (hn512 : 512 ≤ n) {bot top : ℝ} (hb0 : 0 < bot) (hbt : bot < top) (ht1 : top < 1)
    (e : ℝ → ℝ) (s : Fin n → ℝ) (i : Fin n) (hp1 : |s i| ≤ 1) (T : Finset (Fin n)) (κ : EReal)
    (neg : Fin n → Prop) [DecidablePred neg]
    (hneg : ∀ j, neg j ↔ (s j ≤ s i * top ∧ s i * bot ≤ s j) ∧ j ≠ i)
    (hT : IsTop (cand s neg) T) (hκ : ∃ a ∈ T, cand s neg a = κ) (hmin : ∀ b ∈ T, κ ≤ cand s neg b)
    (hsep : Sep bot s neg (s i) κ) :
    kerSum bot top e s (s i) i = refSum e s T i := by
  classical
  obtain ⟨hp0, hsep⟩ := hsep
  have hmi : ¬ Band bot top (s i) s i := by
    rintro ⟨h1, h2⟩
    rcases lt_or_gt_of_ne hp0 with h | h
    · nlinarith
    · nlinarith
  have hnm : neg = Band bot top (s i) s := by
    funext j
    rw [hneg]
    refine propext ⟨fun h => ⟨by rw [mul_comm]; exact h.1.2, by rw [mul_comm]; exact h.1.1⟩, fun h => ?_⟩
    refine ⟨⟨by rw [mul_comm]; exact h.2, by rw [mul_comm]; exact h.1⟩, ?_⟩
    rintro rfl
    exact hmi h
  have hcand : cand s neg = cand s (Band bot top (s i) s) := by
    funext j; unfold cand; simp only [hnm]
  have hfil : (univ.filter fun j => neg j ∧ κ - (((s i - s i * bot) / 2 ^ 13 : ℝ) : EReal) < (s j : EReal))
      = univ.filter fun j => Band bot top (s i) s j ∧ κ - (((s i - s i * bot) / 2 ^ 13 : ℝ) : EReal) < (s j : EReal) := by
    ext j; simp only [mem_filter, hnm]
  rw [hfil] at hsep
  rw [hcand] at hT hκ hmin
  rw [ref_split]
  unfold kerSum
  dsimp only
  set m := Band bot top (s i) s with hm
  set t := ((halve (fillNeg s m))^[13] (bot * s i, s i)).1 with ht
  rw [sum_one_eq_cnt]
  have habs := abs_le.mp hp1
  have hb2 : (-2 : ℝ) < bot * s i ∧ (-2 : ℝ) < s i := ⟨by nlinarith, by linarith⟩
  have hcnt : ∀ x : ℝ, -2 < x → cnt (fillNeg s m) x ≤ (univ.filter m).card := fun x hx => by
    refine card_le_card fun j hj => ?_
    simp only [mem_filter, mem_univ, true_and] at hj ⊢
    exact ((le_fillNeg s m hx j).mp hj).1
  have hcbot : cnt (fillNeg s m) (bot * s i) = (univ.filter m).card := by
    unfold cnt
    congr 1
    ext j
    simp only [mem_filter, mem_univ, true_and]
    rw [le_fillNeg s m hb2.1]
    exact ⟨fun h => h.1, fun h => ⟨h, h.1⟩⟩
  by_cases hn : 129 ≤ (univ.filter m).card
  · -- a full row
    have hpos : 0 < s i := by
      rcases lt_or_gt_of_ne hp0 with h | h
      · exfalso
        have : univ.filter m = ∅ := by
          ext j
          simp only [mem_filter, mem_univ, true_and, notMem_empty, iff_false]
          rintro ⟨h1, h2⟩
          nlinarith
        rw [this] at hn
        simp at hn
      · exact h
    have hge : 129 ≤ cnt (fillNeg s m) t := iter_ge _ 13 (bot * s i, s i) (by rw [hcbot]; exact hn)
    have hc0 : cnt (fillNeg s m) (s i) = 0 := by
      unfold cnt
      rw [card_eq_zero]
      ext j
      simp only [mem_filter, mem_univ, true_and, notMem_empty, iff_false]
      rw [le_fillNeg s m hb2.2]
      rintro ⟨⟨_, h2⟩, h3⟩
      nlinarith
    have hlt := iter_lt (fillNeg s m) 13 (bot * s i, s i) (by rw [hc0]; norm_num)
    have hwid := iter_width (fillNeg s m) 13 (bot * s i, s i)
    have hw : ((halve (fillNeg s m))^[13] (bot * s i, s i)).2 = t + (s i - s i * bot) / 2 ^ 13 := by
      rw [ht]
      have : (bot * s i, s i).2 - (bot * s i, s i).1 = s i - s i * bot := by dsimp only; ring
      rw [this] at hwid
      linarith
    rw [hw] at hlt
    have htpos : 0 < t := (iter_pos (fillNeg s m) 13 (bot * s i, s i) 0 ⟨by dsimp only; positivity, hpos⟩).1
    have hTeq := cut_eq_top s m T hT (by linarith) (w := (s i - s i * bot) / 2 ^ 13)
      (div_nonneg (by nlinarith) (by positivity)) hge hlt hκ hmin hsep
    have hceq : cnt (fillNeg s m) t = 129 := by unfold cnt; rw [hTeq, hT.1]
    rw [hceq]
    norm_num only [Nat.cast_ofNat, le_refl, if_true, sub_self, zero_mul, add_zero]
    congr 1
    refine sum_congr rfl fun j _ => ?_
    have hj : t ≤ fillNeg s m j ↔ j ∈ T := by rw [← hTeq]; simp
    have hji : j ∈ T → j ≠ i := by
      rintro h rfl
      rw [← hj, le_fillNeg s m (by linarith)] at h
      exact hmi h.1
    by_cases h : j ∈ T
    · rw [if_pos (hj.mpr h), if_pos ⟨h, hji h⟩]
    · rw [if_neg (fun h' => h (hj.mp h')), if_neg (fun h' => h h'.1)]
  · -- a short row
    push Not at hn
    have hteq : t = bot * s i := by
      rw [ht, iter_stay _ 13 (bot * s i, s i) hb2 fun x hx => (hcnt x hx).trans_lt hn]
    rw [hteq, hcbot]
    have hnr : ((univ.filter m).card : ℝ) < 129 := by exact_mod_cast hn
    rw [if_neg (not_le.mpr hnr)]
    have hTeq := top_eq_fill s m T hn512 hT hn
    have hr : ∀ j, ((rank m j : ℝ) ≤ 129 - ((univ.filter m).card : ℝ)) ↔ rank m j ≤ 129 - (univ.filter m).card := by
      intro j
      have h1 : (129 : ℝ) - ((univ.filter m).card : ℝ) = ((129 - (univ.filter m).card : ℕ) : ℝ) := by
        rw [Nat.cast_sub hn.le]; norm_num
      rw [h1, Nat.cast_le]
    have hsum : ∀ j, (if j ∈ T ∧ j ≠ i then e (s j) else 0)
        = (if m j then e (s j) else 0)
          + (if j.val < 512 ∧ ¬ m j ∧ (rank m j : ℝ) ≤ 129 - ((univ.filter m).card : ℝ) ∧ j ≠ i then e (s j) else 0) := by
      intro j
      rw [hTeq]
      simp only [mem_union, mem_filter, mem_univ, true_and, fill, hr]
      by_cases hmj : m j
      · have hji : j ≠ i := by rintro rfl; exact hmi hmj
        simp [hmj, hji]
      · simp [hmj, and_assoc]
    rw [sum_congr rfl fun j _ => hsum j, sum_add_distrib]
    ring

end Cert.Row

end
-- ==== Proof.Consts.lean ====
/- The float constants the two programs and the precondition spell, as the extended reals they denote. -/
module

public import Idealize.ShloMosaic.PureOps.Ideal

@[expose] public section

noncomputable section

namespace Cert.Consts

open Idealize.ShloMosaic

/-- The lower band factor: the single precision number nearest to 0.05. -/
def bot : ℝ := 13421773 / 268435456

/-- The upper band factor: the single precision number nearest to 0.95. -/
def top : ℝ := 15938355 / 16777216

/-- The floor under a row's norm: the single precision number nearest to 1e-12. -/
def eps : ℝ := 9223372 / 9223372036854775808

theorem bot_pos : 0 < bot := by norm_num [bot]
theorem bot_lt_top : bot < top := by norm_num [bot, top]
theorem top_lt_one : top < 1 := by norm_num [top]
theorem eps_pos : 0 < eps := by norm_num [eps]

theorem ofBits_bot : Ideal.ofBits .f32 0x3D4CCCCD#32 = ((bot : ℝ) : EReal) := by
  simp [Ideal.ofBits, Ideal.ieee, -EReal.coe_mul]; norm_num [bot]
theorem ofBits_top : Ideal.ofBits .f32 0x3F733333#32 = ((top : ℝ) : EReal) := by
  simp [Ideal.ofBits, Ideal.ieee, -EReal.coe_mul]; norm_num [top]
theorem ofBits_eps : Ideal.ofBits .f32 0x2B8CBCCC#32 = ((eps : ℝ) : EReal) := by
  simp [Ideal.ofBits, Ideal.ieee, -EReal.coe_mul]; norm_num [eps]
theorem ofBits_neg_two : Ideal.ofBits .f32 0xC0000000#32 = ((-2 : ℝ) : EReal) := by
  simp [Ideal.ofBits, Ideal.ieee, -EReal.coe_mul]; norm_num
theorem ofBits_half : Ideal.ofBits .f32 0x3F000000#32 = ((1 / 2 : ℝ) : EReal) := by
  simp [Ideal.ofBits, Ideal.ieee, -EReal.coe_mul]; norm_num
theorem ofBits_129 : Ideal.ofBits .f32 0x43010000#32 = ((129 : ℝ) : EReal) := by
  simp [Ideal.ofBits, Ideal.ieee, -EReal.coe_mul]; norm_num
theorem ofBits_7 : Ideal.ofBits .f32 0x40E00000#32 = ((7 : ℝ) : EReal) := by
  simp [Ideal.ofBits, Ideal.ieee, -EReal.coe_mul]; norm_num
theorem ofBits_100 : Ideal.ofBits .f32 0x42C80000#32 = ((100 : ℝ) : EReal) := by
  simp [Ideal.ofBits, Ideal.ieee, -EReal.coe_mul]; norm_num
theorem ofBits_4096 : Ideal.ofBits .f32 0x45800000#32 = ((4096 : ℝ) : EReal) := by
  simp [Ideal.ofBits, Ideal.ieee, -EReal.coe_mul]; norm_num
theorem ofBits_8192 : Ideal.ofBits .f32 0x46000000#32 = ((8192 : ℝ) : EReal) := by
  simp [Ideal.ofBits, Ideal.ieee, -EReal.coe_mul]; norm_num
theorem ofBits_neg_inf : Ideal.ofBits .f32 0xFF800000#32 = ⊥ := by
  simp [Ideal.ofBits, Ideal.ieee]

end Cert.Consts

end
-- ==== Proof.Norm.lean ====
/- Rows of unit length: a row divided by the larger of its norm and a small constant is a row of reals whose squares sum to
   at most one, whatever extended reals the row held. -/
module

public import proofs.«01_k».proof.Proof.Consts
public import Idealize.ShloMosaic.Lib.Pointwise

@[expose] public section

noncomputable section

namespace Cert.Norm

open Idealize.ShloMosaic Finset

theorem coe_sum {ι : Type} (S : Finset ι) (f : ι → ℝ) : (∑ k ∈ S, (f k : EReal)) = ((∑ k ∈ S, f k : ℝ) : EReal) := by
  classical
  induction S using Finset.induction_on with
  | empty => simp
  | insert a S ha ih => rw [sum_insert ha, sum_insert ha, ih, EReal.coe_add]

theorem coe_max (x y : ℝ) : max (x : EReal) (y : EReal) = ((max x y : ℝ) : EReal) := by
  rcases le_total x y with h | h
  · rw [max_eq_right h, max_eq_right (EReal.coe_le_coe_iff.mpr h)]
  · rw [max_eq_left h, max_eq_left (EReal.coe_le_coe_iff.mpr h)]

/-- One entry of a normalised row. -/
def nrm (x : Fin 32 → EReal) (k : Fin 32) : EReal :=
  Ideal.div (x k) (max (Ideal.sqrt (∑ l, x l * x l)) ((Consts.eps : ℝ) : EReal))

theorem sq_nonneg' (x : EReal) : 0 ≤ x * x := by
  induction x with
  | bot => simp
  | top => simp
  | coe r => rw [← EReal.coe_mul]; exact EReal.coe_nonneg.mpr (mul_self_nonneg r)

theorem nrm_exists (x : Fin 32 → EReal) : ∃ f : Fin 32 → ℝ, (∀ k, nrm x k = (f k : EReal)) ∧ ∑ k, f k ^ 2 ≤ 1 := by
  by_cases h : ∃ k, x k = ⊥ ∨ x k = ⊤
  · obtain ⟨k₀, hk⟩ := h
    have htop : (∑ l, x l * x l) = ⊤ := by
      rw [eq_top_iff]
      have h1 : x k₀ * x k₀ = ⊤ := by rcases hk with h | h <;> simp [h]
      rw [← h1]
      exact single_le_sum (f := fun l => x l * x l) (fun l _ => sq_nonneg' (x l)) (mem_univ k₀)
    refine ⟨fun _ => 0, fun k => ?_, by simp⟩
    unfold nrm
    rw [htop, Ideal.sqrt_top, max_eq_left le_top]
    simp [Ideal.div]
  · push Not at h
    have hx : ∀ k, x k = ((x k).toReal : EReal) := fun k => (EReal.coe_toReal (h k).2 (h k).1).symm
    obtain ⟨g, rfl⟩ : ∃ g : Fin 32 → ℝ, x = fun k => (g k : EReal) := ⟨fun k => (x k).toReal, funext hx⟩
    have hQ : (∑ l, (g l : EReal) * (g l : EReal)) = ((∑ l, g l ^ 2 : ℝ) : EReal) := by
      rw [← coe_sum]
      exact sum_congr rfl fun l _ => by rw [← EReal.coe_mul, sq]
    have hQ0 : 0 ≤ ∑ l, g l ^ 2 := sum_nonneg fun l _ => sq_nonneg _
    set Q := ∑ l, g l ^ 2 with hQdef
    set M := max (Real.sqrt Q) Consts.eps with hM
    have hMpos : 0 < M := lt_of_lt_of_le Consts.eps_pos (le_max_right _ _)
    refine ⟨fun k => g k * (1 / M), fun k => ?_, ?_⟩
    · unfold nrm
      rw [hQ, Ideal.sqrt_coe, if_neg (not_lt.mpr hQ0), coe_max, ← hM, Ideal.div_coe hMpos.ne', ← EReal.coe_mul]
    · have h1 : ∑ k, (g k * (1 / M)) ^ 2 = Q * (1 / M) ^ 2 := by
        rw [hQdef, sum_mul]
        exact sum_congr rfl fun k _ => by ring
      rw [h1, one_div, inv_pow, ← div_eq_mul_inv, div_le_one (by positivity)]
      calc Q = Real.sqrt Q ^ 2 := (Real.sq_sqrt hQ0).symm
        _ ≤ M ^ 2 := by
          have : Real.sqrt Q ≤ M := le_max_left _ _
          have h0 := Real.sqrt_nonneg Q
          nlinarith

/-- The normalised row as reals. -/
def unit (x : Fin 32 → EReal) (k : Fin 32) : ℝ := (nrm x k).toReal

theorem nrm_eq (x : Fin 32 → EReal) (k : Fin 32) : nrm x k = (unit x k : EReal) := by
  obtain ⟨f, hf, _⟩ := nrm_exists x
  unfold unit
  rw [hf k, EReal.toReal_coe]

theorem unit_sq_le (x : Fin 32 → EReal) : ∑ k, unit x k ^ 2 ≤ 1 := by
  obtain ⟨f, hf, h⟩ := nrm_exists x
  have : ∀ k, unit x k = f k := fun k => by unfold unit; rw [hf k, EReal.toReal_coe]
  simpa only [this] using h

/-- The scores of one row: its products with the rows of the second array, all normalised. -/
def score (A B : Fin 4096 → Fin 32 → EReal) (i j : Fin 4096) : ℝ := ∑ k, unit (A i) k * unit (B j) k

theorem abs_score_le (A B : Fin 4096 → Fin 32 → EReal) (i j : Fin 4096) : |score A B i j| ≤ 1 := by
  have hA := unit_sq_le (A i)
  have hB := unit_sq_le (B j)
  unfold score
  have h : ∀ f g : Fin 32 → ℝ, ∑ k, f k * g k ≤ (∑ k, f k ^ 2 + ∑ k, g k ^ 2) / 2 := fun f g => by
    rw [← sum_add_distrib, sum_div]
    exact sum_le_sum fun k _ => by nlinarith [sq_nonneg (f k - g k)]
  rw [abs_le]
  constructor
  · have := h (fun k => - unit (A i) k) (unit (B j))
    simp only [neg_mul, sum_neg_distrib, even_two, Even.neg_pow] at this
    linarith
  · have := h (unit (A i)) (unit (B j))
    linarith

theorem sum_score (A B : Fin 4096 → Fin 32 → EReal) (i j : Fin 4096) :
    (∑ k, nrm (A i) k * nrm (B j) k) = (score A B i j : EReal) := by
  unfold score
  rw [← coe_sum]
  exact sum_congr rfl fun k _ => by rw [nrm_eq, nrm_eq, EReal.coe_mul]

/-- The exponential of a score over the temperature. -/
def ex (x : ℝ) : ℝ := Real.exp (x * (100 / 7))

theorem exp2_eq (x : ℝ) : Ideal.exp2 ((x : EReal) * ((((100 / 7) * (Real.log 2)⁻¹ : ℝ)) : EReal)) = (ex x : EReal) := by
  rw [← EReal.coe_mul, Ideal.exp2_coe]
  congr 1
  unfold ex
  have h2 : Real.log 2 ≠ 0 := (Real.log_pos (by norm_num)).ne'
  show (2 : ℝ) ^ (x * (100 / 7 * (Real.log 2)⁻¹)) = _
  rw [Real.rpow_def_of_pos (by norm_num)]
  congr 1
  field_simp

end Cert.Norm

end
-- ==== Proof.KernelVec.lean ====
/- The kernel's vector operations read at one row. -/
module

public import proofs.«01_k».proof.Proof.Gen.KernelIdeal.Skeleton
public import proofs.«01_k».proof.Proof.RowMath
public import proofs.«01_k».proof.Proof.Consts
public import Idealize.ShloMosaic.Lib.Pointwise
public import proofs.«01_k».proof.Proof.Norm
public import Idealize.ShloMosaic.Lib.IndicatorCount
public import Idealize.ShloMosaic.Lib.WordCmp

@[expose] public section

set_option maxRecDepth 16384

noncomputable section

namespace Cert.KernelIdeal.Row

open Idealize.ShloMosaic Idealize.ShloMosaic.TcCoe Idealize.SL.Sem
open Cert.KernelIdeal Cert.KernelIdeal.Gen

open Cert.Row Cert.Norm Finset

theorem exp2_def' (x : EReal) : FloatOps.exp2 (F := Ideal) (φ := .f32) x = Ideal.exp2 x := rfl

theorem inv_t : Named.named (F := Ideal) Cert.KernelIdeal.κ "inv_t" (φ := .f32) 0x41649249#32 = ((100 / 7 : ℝ) : EReal) :=
  IdealRules.named_const.ideal_named_scalar _ _ _ _ rfl

theorem inv_t_ln2 : Named.named (F := Ideal) Cert.KernelIdeal.κ "inv_t_ln2" (φ := .f32) 0x41A4E123#32
    = (((100 / 7) * (Real.log 2)⁻¹ : ℝ) : EReal) :=
  IdealRules.named_const.ideal_named_scalar _ _ _ _ rfl

/-! ## The bisection -/

/-- The kernel's test of the middle of a bracket: 129 columns reach it or more. -/
theorem ge_row (V : FVec Ideal S512x4096 .f32) (S : FVec Ideal S512x1 .f32) (r : Fin 512) (v : Fin 4096 → ℝ) (x : ℝ)
    (hV : ∀ j, V (ix2 r j) = (v j : EReal)) (hS : S (ix2 r 0) = (x : EReal)) :
    k0_pay29 (F := Ideal) V S (ix2 r 0) = BitVec.ofBool (decide (129 ≤ cnt v ((1 / 2) * x))) := by
  pointwise [k0_pay29, k0_pay28, hS, hV, Consts.ofBits_half]
  rw [IndicatorCount.fold_addi_setWidth_eq_card]
  have hc : ∀ (p : Fin 4096 → BitVec 1), (∀ j, p j = 1#1 ↔ 1 / 2 * x ≤ v j) →
      (univ.filter fun j : Fin 4096 => p j = 1#1).card = cnt v ((1 / 2) * x) := by
    intro p hp
    unfold cnt
    congr 1
    ext j
    simp only [mem_filter, mem_univ, true_and, hp]
  rw [hc _ fun j => by
    rw [WordCmp.ofBool_decide_eq_one_iff, ← EReal.coe_mul, EReal.coe_le_coe_iff]]
  have hle : cnt v ((1 / 2) * x) ≤ 4096 := by
    unfold cnt
    exact (card_le_univ _).trans (by simp)
  generalize cnt v ((1 / 2) * x) = c at hle
  show IntOp.cmpi .sge (BitVec.ofNat 32 c) (BitVec.ofNat 32 129) = _
  word_cmp

theorem mid_row (S : FVec Ideal S512x1 .f32) (r : Fin 512) (x : ℝ) (hS : S (ix2 r 0) = (x : EReal)) :
    k0_pay28 (F := Ideal) S (ix2 r 0) = ((1 / 2 * x : ℝ) : EReal) := by
  pointwise [k0_pay28]
  rw [hS, Consts.ofBits_half, ← EReal.coe_mul]

/-- One halving of every row's bracket, as the kernel does it. -/
def vhalve (V : FVec Ideal S512x4096 .f32) (p : FVec Ideal S512x1 .f32 × FVec Ideal S512x1 .f32) :
    FVec Ideal S512x1 .f32 × FVec Ideal S512x1 .f32 :=
  (k0_pay30 (F := Ideal) V p.1 (addf p.1 p.2), k0_pay31 (F := Ideal) V p.2 (addf p.1 p.2))

/-- A pair of bracket vectors reads, at row `r`, as a pair of reals. -/
def Reads (r : Fin 512) (p : FVec Ideal S512x1 .f32 × FVec Ideal S512x1 .f32) (b : ℝ × ℝ) : Prop :=
  p.1 (ix2 r 0) = (b.1 : EReal) ∧ p.2 (ix2 r 0) = (b.2 : EReal)

theorem vhalve_row (V : FVec Ideal S512x4096 .f32) (r : Fin 512) (v : Fin 4096 → ℝ)
    (hV : ∀ j, V (ix2 r j) = (v j : EReal)) (p : FVec Ideal S512x1 .f32 × FVec Ideal S512x1 .f32) (b : ℝ × ℝ)
    (h : Reads r p b) : Reads r (vhalve V p) (halve v b) := by
  obtain ⟨p1, p2⟩ := p
  obtain ⟨h1, h2⟩ := h
  dsimp only at h1 h2
  have hS : addf p1 p2 (ix2 r 0) = ((b.1 + b.2 : ℝ) : EReal) := by
    pointwise
    rw [h1, h2, EReal.coe_add]
  have hg := ge_row V (addf p1 p2) r v _ hV hS
  have hm := mid_row (addf p1 p2) r _ hS
  constructor
  · simp only [vhalve, k0_pay30, select]
    rw [hg, hm, h1, halve]
    unfold Scalar.select
    simp only [WordCmp.ofBool_decide_eq_one_iff, WordCmp.ofBool_eq_one_iff', decide_eq_true_eq]
    split <;> rfl
  · simp only [vhalve, k0_pay31, select]
    rw [hg, hm, h2, halve]
    unfold Scalar.select
    simp only [WordCmp.ofBool_decide_eq_one_iff, WordCmp.ofBool_eq_one_iff', decide_eq_true_eq]
    split <;> rfl

theorem iter_row (V : FVec Ideal S512x4096 .f32) (r : Fin 512) (v : Fin 4096 → ℝ)
    (hV : ∀ j, V (ix2 r j) = (v j : EReal)) (k : ℕ) (p : FVec Ideal S512x1 .f32 × FVec Ideal S512x1 .f32) (b : ℝ × ℝ)
    (h : Reads r p b) : Reads r ((vhalve V)^[k] p) ((halve v)^[k] b) := by
  induction k with
  | zero => exact h
  | succ k ih => rw [Function.iterate_succ_apply', Function.iterate_succ_apply']; exact vhalve_row V r v hV _ _ ih

/-- The first four halvings. -/
theorem four_a (V : FVec Ideal S512x4096 .f32) (lo hi : FVec Ideal S512x1 .f32) :
    (k0_pay25 (F := Ideal) hi V lo (addf lo hi), k0_pay26 (F := Ideal) hi V lo (addf lo hi))
      = (vhalve V)^[4] (lo, hi) := by
  have h1 : (k0_pay13 (F := Ideal) V lo (addf lo hi), k0_pay14 (F := Ideal) hi V (addf lo hi)) = vhalve V (lo, hi) := by
    simp only [vhalve, k0_pay28, k0_pay29, k0_pay30, k0_pay31, k0_pay11, k0_pay12, k0_pay13, k0_pay14]
  have h2 : (k0_pay17 (F := Ideal) hi V lo (addf lo hi), k0_pay18 (F := Ideal) hi V lo (addf lo hi))
      = vhalve V (k0_pay13 (F := Ideal) V lo (addf lo hi), k0_pay14 (F := Ideal) hi V (addf lo hi)) := by
    simp only [vhalve, k0_pay28, k0_pay29, k0_pay30, k0_pay31, k0_pay15, k0_pay16, k0_pay17, k0_pay18]
  have h3 : (k0_pay21 (F := Ideal) hi V lo (addf lo hi), k0_pay22 (F := Ideal) hi V lo (addf lo hi))
      = vhalve V (k0_pay17 (F := Ideal) hi V lo (addf lo hi), k0_pay18 (F := Ideal) hi V lo (addf lo hi)) := by
    simp only [vhalve, k0_pay28, k0_pay29, k0_pay30, k0_pay31, k0_pay19, k0_pay20, k0_pay21, k0_pay22]
  have h4 : (k0_pay25 (F := Ideal) hi V lo (addf lo hi), k0_pay26 (F := Ideal) hi V lo (addf lo hi))
      = vhalve V (k0_pay21 (F := Ideal) hi V lo (addf lo hi), k0_pay22 (F := Ideal) hi V lo (addf lo hi)) := by
    simp only [vhalve, k0_pay28, k0_pay29, k0_pay30, k0_pay31, k0_pay23, k0_pay24, k0_pay25, k0_pay26]
  rw [h4, h3, h2, h1]
  rfl

/-- The next four. -/
theorem four_b (V : FVec Ideal S512x4096 .f32) (lo hi : FVec Ideal S512x1 .f32) :
    (k0_pay42 (F := Ideal) V lo hi (addf lo hi), k0_pay43 (F := Ideal) V lo hi (addf lo hi)) = (vhalve V)^[4] (lo, hi) := by
  have h1 : (k0_pay30 (F := Ideal) V lo (addf lo hi), k0_pay31 (F := Ideal) V hi (addf lo hi)) = vhalve V (lo, hi) := by
    simp only [vhalve, k0_pay28, k0_pay29, k0_pay30, k0_pay31]
  have h2 : (k0_pay34 (F := Ideal) V lo hi (addf lo hi), k0_pay35 (F := Ideal) V lo hi (addf lo hi))
      = vhalve V (k0_pay30 (F := Ideal) V lo (addf lo hi), k0_pay31 (F := Ideal) V hi (addf lo hi)) := by
    simp only [vhalve, k0_pay28, k0_pay29, k0_pay30, k0_pay31, k0_pay32, k0_pay33, k0_pay34, k0_pay35]
  have h3 : (k0_pay38 (F := Ideal) V lo hi (addf lo hi), k0_pay39 (F := Ideal) V lo hi (addf lo hi))
      = vhalve V (k0_pay34 (F := Ideal) V lo hi (addf lo hi), k0_pay35 (F := Ideal) V lo hi (addf lo hi)) := by
    simp only [vhalve, k0_pay28, k0_pay29, k0_pay30, k0_pay31, k0_pay36, k0_pay37, k0_pay38, k0_pay39]
  have h4 : (k0_pay42 (F := Ideal) V lo hi (addf lo hi), k0_pay43 (F := Ideal) V lo hi (addf lo hi))
      = vhalve V (k0_pay38 (F := Ideal) V lo hi (addf lo hi), k0_pay39 (F := Ideal) V lo hi (addf lo hi)) := by
    simp only [vhalve, k0_pay28, k0_pay29, k0_pay30, k0_pay31, k0_pay40, k0_pay41, k0_pay42, k0_pay43]
  rw [h4, h3, h2, h1]
  rfl

/-- The last five: the lower end after the thirteenth. -/
theorem five_c (V : FVec Ideal S512x4096 .f32) (lo hi : FVec Ideal S512x1 .f32) :
    k0_pay61 (F := Ideal) V (k0_pay59 (F := Ideal) V lo hi (addf lo hi)) (k0_pay60 (F := Ideal) V lo hi (addf lo hi))
      = ((vhalve V)^[5] (lo, hi)).1 := by
  have h1 : (k0_pay47 (F := Ideal) V lo (addf lo hi), k0_pay48 (F := Ideal) V hi (addf lo hi)) = vhalve V (lo, hi) := by
    simp only [vhalve, k0_pay28, k0_pay29, k0_pay30, k0_pay31, k0_pay45, k0_pay46, k0_pay47, k0_pay48]
  have h2 : (k0_pay51 (F := Ideal) V lo hi (addf lo hi), k0_pay52 (F := Ideal) V lo hi (addf lo hi))
      = vhalve V (k0_pay47 (F := Ideal) V lo (addf lo hi), k0_pay48 (F := Ideal) V hi (addf lo hi)) := by
    simp only [vhalve, k0_pay28, k0_pay29, k0_pay30, k0_pay31, k0_pay49, k0_pay50, k0_pay51, k0_pay52]
  have h3 : (k0_pay55 (F := Ideal) V lo hi (addf lo hi), k0_pay56 (F := Ideal) V lo hi (addf lo hi))
      = vhalve V (k0_pay51 (F := Ideal) V lo hi (addf lo hi), k0_pay52 (F := Ideal) V lo hi (addf lo hi)) := by
    simp only [vhalve, k0_pay28, k0_pay29, k0_pay30, k0_pay31, k0_pay53, k0_pay54, k0_pay55, k0_pay56]
  have h4 : (vhalve V)^[4] (lo, hi)
      = vhalve V (k0_pay55 (F := Ideal) V lo hi (addf lo hi), k0_pay56 (F := Ideal) V lo hi (addf lo hi)) := by
    rw [h3, h2, h1]
    rfl
  rw [Function.iterate_succ_apply', h4]
  simp only [vhalve, k0_pay28, k0_pay29, k0_pay30, k0_pay31, k0_pay57, k0_pay58, k0_pay59, k0_pay60, k0_pay61]

/-! ## One row of a block -/

section Block

variable (v3 : FVec Ideal S512x32 .f32) (v12 : FVec Ideal S4096x32 .f32) (v16 : FVec Ideal S512x32 .f32) (r : Fin 512)
  (A B : Fin 4096 → Fin 32 → EReal) (i : Fin 4096)

/-- The first array's block at row `r` is row `i` of the array; the scratch holds the second array's rows normalised. -/
structure Holds : Prop where
  h3 : ∀ k : Fin 32, v3 (ix2 r k) = A i k
  h12 : ∀ (j : Fin 4096) (k : Fin 32), v12 (ix2 j k) = nrm (B j) k
  h16 : ∀ k : Fin 32, v16 (ix2 r k) = nrm (B i) k

variable {v3 v12 v16 r A B i}

theorem pay1_row (X : FVec Ideal S4096x32 .f32) (j : Fin 4096) (k : Fin 32) :
    k0_pay1 (F := Ideal) X (ix2 j k) = nrm (fun k => X (ix2 j k)) k := by
  pointwise [k0_pay1]
  rw [Consts.ofBits_eps]
  rfl

theorem pay2_row (X : FVec Ideal S512x32 .f32) (j : Fin 512) (k : Fin 32) :
    k0_pay2 (F := Ideal) X (ix2 j k) = nrm (fun k => X (ix2 j k)) k := by
  pointwise [k0_pay2]
  rw [Consts.ofBits_eps]
  rfl

theorem an_row (h : Holds v3 v12 v16 r A B i) (k : Fin 32) : k0_pay2 (F := Ideal) v3 (ix2 r k) = nrm (A i) k := by
  rw [pay2_row, funext h.h3]

theorem sim_row (h : Holds v3 v12 v16 r A B i) (j : Fin 4096) :
    k0_pay3 (F := Ideal) v3 v12 (ix2 r j) = (score A B i j : EReal) := by
  pointwise [k0_pay3]
  rw [← sum_score]
  exact sum_congr rfl fun k _ => by rw [an_row h, h.h12]

theorem pos_row (h : Holds v3 v12 v16 r A B i) : k0_pay4 (F := Ideal) v3 v16 (ix2 r 0) = (score A B i i : EReal) := by
  pointwise [k0_pay4]
  rw [← sum_score]
  exact sum_congr rfl fun k _ => by rw [an_row h, h.h16]

/-- The band of row `i`. -/
abbrev band (A B : Fin 4096 → Fin 32 → EReal) (i : Fin 4096) : Fin 4096 → Prop :=
  Band Consts.bot Consts.top (score A B i i) (score A B i)

theorem band_row (h : Holds v3 v12 v16 r A B i) (j : Fin 4096) :
    k0_pay5 (F := Ideal) v3 v12 v16 (ix2 r j) = BitVec.ofBool (decide (band A B i j)) := by
  pointwise [k0_pay5]
  rw [pos_row h, sim_row h, Consts.ofBits_bot, Consts.ofBits_top, ← EReal.coe_mul, ← EReal.coe_mul, WordCmp.andi_ofBool]
  simp only [EReal.coe_le_coe_iff, ← Bool.decide_and]
  rfl

theorem fill_row (h : Holds v3 v12 v16 r A B i) (j : Fin 4096) :
    k0_pay6 (F := Ideal) v3 v12 v16 (ix2 r j) = (fillNeg (score A B i) (band A B i) j : EReal) := by
  pointwise [k0_pay6]
  rw [band_row h, sim_row h, Consts.ofBits_neg_two]
  unfold Scalar.select fillNeg
  simp only [WordCmp.ofBool_eq_one_iff', decide_eq_true_eq]
  split <;> rfl

theorem e_row (h : Holds v3 v12 v16 r A B i) (j : Fin 4096) :
    k0_pay7 (F := Ideal) v3 v12 (ix2 r j) = (ex (score A B i j) : EReal) := by
  pointwise [k0_pay7]
  rw [sim_row h, inv_t_ln2]
  exact exp2_eq _

theorem epos_row (h : Holds v3 v12 v16 r A B i) :
    k0_pay8 (F := Ideal) v3 v16 (ix2 r 0) = (ex (score A B i i) : EReal) := by
  pointwise [k0_pay8]
  rw [pos_row h, inv_t_ln2]
  exact exp2_eq _

theorem lo_row (h : Holds v3 v12 v16 r A B i) :
    k0_pay9 (F := Ideal) v3 v16 (ix2 r 0) = ((Consts.bot * score A B i i : ℝ) : EReal) := by
  pointwise [k0_pay9]
  rw [pos_row h, Consts.ofBits_bot, ← EReal.coe_mul]

end Block

end Cert.KernelIdeal.Row

end
-- ==== Proof.KernelRow.lean ====
/- What one grid point of the kernel adds to the running total: the losses of its 512 rows. -/
module

public import proofs.«01_k».proof.Proof.KernelVec

@[expose] public section

set_option maxRecDepth 16384

noncomputable section

namespace Cert.KernelIdeal.Row

open Idealize.ShloMosaic Idealize.ShloMosaic.TcCoe Idealize.SL.Sem
open Cert.KernelIdeal Cert.KernelIdeal.Gen
open Cert.Row Cert.Norm Finset

/-- The loss of row `i`, as the kernel computes it. -/
def lossE (A B : Fin 4096 → Fin 32 → EReal) (i : Fin 4096) : EReal :=
  Ideal.log ((kerSum Consts.bot Consts.top ex (score A B i) (score A B i i) i : ℝ) : EReal)
    - ((score A B i i * (100 / 7) : ℝ) : EReal)

/-- A column of the first 512 as a column of the row. -/
abbrev wide (x : Fin 512) : Fin 4096 := ⟨x.val, by omega⟩

/-- A sum over the row of terms that vanish from column 512 on is the sum over the first 512 columns. -/
theorem sum_first {M : Type} [AddCommMonoid M] (g : Fin 4096 → M) (hg : ∀ j : Fin 4096, 512 ≤ j.val → g j = 0) :
    ∑ j, g j = ∑ x : Fin 512, g (wide x) := by
  have h := Fin.sum_univ_add (a := 512) (b := 3584) g
  have h0 : ∑ i : Fin 3584, g (Fin.natAdd 512 i) = 0 := sum_eq_zero fun i _ => hg _ (by simp)
  rw [h0, add_zero] at h
  exact h

section Block

variable (v3 : FVec Ideal S512x32 .f32) (v12 : FVec Ideal S4096x32 .f32) (v16 : FVec Ideal S512x32 .f32)

def q85 : FVec Ideal S512x1 .f32 := k0_pay25 (F := Ideal) (k0_pay4 v3 v16) (k0_pay6 v3 v12 v16) (k0_pay9 v3 v16) (k0_pay10 v3 v16)
def q86 : FVec Ideal S512x1 .f32 := k0_pay26 (F := Ideal) (k0_pay4 v3 v16) (k0_pay6 v3 v12 v16) (k0_pay9 v3 v16) (k0_pay10 v3 v16)
def q87 : FVec Ideal S512x1 .f32 := k0_pay27 (F := Ideal) (k0_pay4 v3 v16) (k0_pay6 v3 v12 v16) (k0_pay9 v3 v16) (k0_pay10 v3 v16)
def q133 : FVec Ideal S512x1 .f32 := k0_pay42 (F := Ideal) (k0_pay6 v3 v12 v16) (q85 v3 v12 v16) (q86 v3 v12 v16) (q87 v3 v12 v16)
def q134 : FVec Ideal S512x1 .f32 := k0_pay43 (F := Ideal) (k0_pay6 v3 v12 v16) (q85 v3 v12 v16) (q86 v3 v12 v16) (q87 v3 v12 v16)
def q135 : FVec Ideal S512x1 .f32 := k0_pay44 (F := Ideal) (k0_pay6 v3 v12 v16) (q85 v3 v12 v16) (q86 v3 v12 v16) (q87 v3 v12 v16)
def q181 : FVec Ideal S512x1 .f32 := k0_pay59 (F := Ideal) (k0_pay6 v3 v12 v16) (q133 v3 v12 v16) (q134 v3 v12 v16) (q135 v3 v12 v16)
def q183 : FVec Ideal S512x1 .f32 := k0_pay60 (F := Ideal) (k0_pay6 v3 v12 v16) (q133 v3 v12 v16) (q134 v3 v12 v16) (q135 v3 v12 v16)

theorem q_four : (q85 v3 v12 v16, q86 v3 v12 v16) = (vhalve (k0_pay6 v3 v12 v16))^[4] (k0_pay9 v3 v16, k0_pay4 v3 v16) := by
  rw [← four_a]
  simp only [q85, q86, k0_pay10]

theorem q_eight : (q133 v3 v12 v16, q134 v3 v12 v16)
    = (vhalve (k0_pay6 v3 v12 v16))^[4] ((vhalve (k0_pay6 v3 v12 v16))^[4] (k0_pay9 v3 v16, k0_pay4 v3 v16)) := by
  have h87 : q87 v3 v12 v16 = addf (q85 v3 v12 v16) (q86 v3 v12 v16) := by simp only [q87, q85, q86, k0_pay27]
  rw [← q_four, ← four_b]
  simp only [q133, q134, h87]

theorem q_last : k0_pay61 (F := Ideal) (k0_pay6 v3 v12 v16) (q181 v3 v12 v16) (q183 v3 v12 v16)
    = ((vhalve (k0_pay6 v3 v12 v16))^[13] (k0_pay9 v3 v16, k0_pay4 v3 v16)).1 := by
  have h135 : q135 v3 v12 v16 = addf (q133 v3 v12 v16) (q134 v3 v12 v16) := by simp only [q135, q133, q134, k0_pay44]
  have h : (vhalve (k0_pay6 v3 v12 v16))^[13] (k0_pay9 v3 v16, k0_pay4 v3 v16)
      = (vhalve (k0_pay6 v3 v12 v16))^[5] (q133 v3 v12 v16, q134 v3 v12 v16) := by
    rw [q_eight, ← Function.iterate_add_apply, ← Function.iterate_add_apply]
  rw [h, ← five_c]
  simp only [q181, q183, h135]

variable {v3 v12 v16} {r : Fin 512} {A B : Fin 4096 → Fin 32 → EReal} {i : Fin 4096}

/-- Row `i`'s threshold after thirteen halvings. -/
def thr (A B : Fin 4096 → Fin 32 → EReal) (i : Fin 4096) : ℝ :=
  ((halve (fillNeg (score A B i) (band A B i)))^[13] (Consts.bot * score A B i i, score A B i i)).1

/-- How many columns reach it. -/
def reach (A B : Fin 4096 → Fin 32 → EReal) (i : Fin 4096) : ℝ :=
  ∑ j, if thr A B i ≤ fillNeg (score A B i) (band A B i) j then 1 else 0

theorem thr_row (h : Holds v3 v12 v16 r A B i) :
    k0_pay61 (F := Ideal) (k0_pay6 v3 v12 v16) (q181 v3 v12 v16) (q183 v3 v12 v16) (ix2 r 0) = (thr A B i : EReal) := by
  rw [q_last]
  exact (iter_row _ r _ (fill_row h) 13 (k0_pay9 v3 v16, k0_pay4 v3 v16) (Consts.bot * score A B i i, score A B i i)
    ⟨lo_row h, pos_row h⟩).1

theorem mask_gen (V : FVec Ideal S512x4096 .f32) (T : FVec Ideal S512x1 .f32) (t : ℝ) (f : Fin 4096 → ℝ)
    (ht : T (ix2 r 0) = (t : EReal)) (hf : ∀ j, V (ix2 r j) = (f j : EReal)) (j : Fin 4096) :
    cmpf .oge V (broadcastTo S512x4096 T broadcasts_S512x1_S512x4096) (ix2 r j) = BitVec.ofBool (decide (t ≤ f j)) := by
  pointwise
  simp only [ht, hf, EReal.coe_le_coe_iff]

/-- Which columns reach the threshold. -/
theorem mask_row (h : Holds v3 v12 v16 r A B i) (j : Fin 4096) :
    k0_pay62 (F := Ideal) (k0_pay6 v3 v12 v16) (q181 v3 v12 v16) (q183 v3 v12 v16) (ix2 r j)
      = BitVec.ofBool (decide (thr A B i ≤ fillNeg (score A B i) (band A B i) j)) := by
  rw [k0_pay62]
  exact mask_gen _ _ _ _ (thr_row h) (fill_row h) j

theorem reach_row (h : Holds v3 v12 v16 r A B i) :
    k0_pay63 (F := Ideal) (k0_pay6 v3 v12 v16) (q181 v3 v12 v16) (q183 v3 v12 v16) (ix2 r 0) = (reach A B i : EReal) := by
  have hm := mask_row h
  unfold k0_pay63
  generalize k0_pay62 (F := Ideal) (k0_pay6 v3 v12 v16) (q181 v3 v12 v16) (q183 v3 v12 v16) = M at hm ⊢
  pointwise
  unfold reach
  rw [← coe_sum]
  refine sum_congr rfl fun j _ => ?_
  rw [hm]
  unfold Scalar.select
  simp only [WordCmp.ofBool_eq_one_iff', decide_eq_true_eq]
  split
  · exact EReal.coe_one.symm
  · exact EReal.coe_zero.symm

theorem sa_gen (M : IVec S512x4096 1) (E : FVec Ideal S512x4096 .f32) (P C T : FVec Ideal S512x1 .f32)
    (p : Fin 4096 → Prop) [DecidablePred p] (e : Fin 4096 → ℝ) (c t x : ℝ)
    (hm : ∀ j, M (ix2 r j) = BitVec.ofBool (decide (p j))) (he : ∀ j, E (ix2 r j) = (e j : EReal))
    (hp : P (ix2 r 0) = (x : EReal)) (hc : C (ix2 r 0) = (c : EReal)) (ht : T (ix2 r 0) = (t : EReal)) :
    addf (addf (shapeCast S512x1 (multiReduction .add [1] S512
        (select M E (broadcast S512x4096 (Scalar.ofBits (F := Ideal) .f32 0x00000000#32))) 0x00000000#32 reduces_S512x4096_S512
          (.inl rfl) rfl) shapeCasts_S512_S512x1)
      (mulf (subf (broadcast S512x1 (Scalar.ofBits (F := Ideal) .f32 0x43010000#32)) C)
        (exp2 (mulf T (broadcast S512x1 (Named.named (F := Ideal) Cert.KernelIdeal.κ "inv_t_ln2" (φ := .f32) 0x41A4E123#32)))))) P
      (ix2 r 0)
      = (((∑ j, if p j then e j else 0) + (129 - c) * ex t + x : ℝ) : EReal) := by
  have hx : exp2 (mulf T (broadcast S512x1 (Named.named (F := Ideal) Cert.KernelIdeal.κ "inv_t_ln2" (φ := .f32) 0x41A4E123#32)))
      (ix2 r 0) = (ex t : EReal) := by
    show Ideal.exp2 (T (ix2 r 0) * Named.named (F := Ideal) Cert.KernelIdeal.κ "inv_t_ln2" (φ := .f32) 0x41A4E123#32) = _
    rw [ht, inv_t_ln2, exp2_eq]
  generalize exp2 (mulf T (broadcast S512x1 (Named.named (F := Ideal) Cert.KernelIdeal.κ "inv_t_ln2" (φ := .f32) 0x41A4E123#32)))
    = X at hx ⊢
  have hy : mulf (subf (broadcast S512x1 (Scalar.ofBits (F := Ideal) .f32 0x43010000#32)) C) X (ix2 r 0)
      = (((129 - c) * ex t : ℝ) : EReal) := by
    show (Ideal.ofBits .f32 0x43010000#32 - C (ix2 r 0)) * X (ix2 r 0) = _
    rw [hc, hx, Consts.ofBits_129, ← EReal.coe_sub, ← EReal.coe_mul]
  generalize mulf (subf (broadcast S512x1 (Scalar.ofBits (F := Ideal) .f32 0x43010000#32)) C) X = Y at hy ⊢
  pointwise
  rw [hp, hy, EReal.coe_add, EReal.coe_add, ← coe_sum]
  refine congrArg₂ (· + ·) (congrArg₂ (· + ·) (sum_congr rfl fun j _ => ?_) rfl) rfl
  rw [hm, he]
  unfold Scalar.select
  simp only [WordCmp.ofBool_eq_one_iff', decide_eq_true_eq]
  split
  · rfl
  · exact EReal.coe_zero.symm

theorem sa_row (h : Holds v3 v12 v16 r A B i) :
    k0_pay64 (F := Ideal) (k0_pay6 v3 v12 v16) (k0_pay7 v3 v12) (k0_pay8 v3 v16) (q181 v3 v12 v16) (q183 v3 v12 v16) (ix2 r 0)
      = (((∑ j, if thr A B i ≤ fillNeg (score A B i) (band A B i) j then ex (score A B i j) else 0)
          + (129 - reach A B i) * ex (thr A B i) + ex (score A B i i) : ℝ) : EReal) := by
  rw [k0_pay64]
  exact sa_gen _ _ _ _ _ (fun j => thr A B i ≤ fillNeg (score A B i) (band A B i) j) (fun j => ex (score A B i j)) _ _ _
    (mask_row h) (e_row h) (epos_row h) (reach_row h) (thr_row h)

theorem nm_row (M : IVec S512x4096 1) (hM : ∀ j, M (ix2 r j) = BitVec.ofBool (decide (band A B i j))) (x : Fin 512) :
    k0_pay65 (F := Ideal) M (ix2 r x) = if band A B i (wide x) then 0 else 1 := by
  pointwise [k0_pay65, hM]

theorem rank_row (M : IVec S512x4096 1) (hM : ∀ j, M (ix2 r j) = BitVec.ofBool (decide (band A B i j))) (x : Fin 512) :
    k0_pay66 (F := Ideal) M (ix2 r x) = ((rank (band A B i) (wide x) : ℝ) : EReal) := by
  have hn := nm_row M hM
  unfold k0_pay66
  generalize k0_pay65 (F := Ideal) M = N at hn ⊢
  pointwise [hn]
  have h1 : ((rank (band A B i) (wide x) : ℕ) : ℝ)
      = ∑ y : Fin 512, if wide y ≤ wide x ∧ ¬ band A B i (wide y) then (1 : ℝ) else 0 := by
    unfold rank
    rw [← sum_boole, sum_first _ fun j hj => if_neg fun h => by omega]
    refine sum_congr rfl fun y _ => ?_
    have : (wide y).val < 512 := y.isLt
    simp only [this, true_and]
  rw [h1, ← coe_sum]
  refine sum_congr rfl fun y _ => ?_
  have hy : y.val < 512 := y.isLt
  have hx : x.val < 512 := x.isLt
  have hcmp : IntOp.cmpi CmpIPredicate.sle (BitVec.ofNat 32 ↑y) (BitVec.ofNat 32 ↑x) = BitVec.ofBool (decide (wide y ≤ wide x)) := by
    have : (wide y ≤ wide x) ↔ y.val ≤ x.val := Iff.rfl
    simp only [this]
    word_cmp
  rw [hcmp]
  unfold Scalar.select
  simp only [WordCmp.ofBool_eq_one_iff', decide_eq_true_eq]
  by_cases h1 : wide y ≤ wide x <;> by_cases h2 : band A B i (wide y) <;> simp [h1, h2]

theorem out_row (M : IVec S512x4096 1) (hM : ∀ j, M (ix2 r j) = BitVec.ofBool (decide (band A B i j))) (x : Fin 512) :
    k0_pay67 (F := Ideal) M (ix2 r x) = BitVec.ofBool (decide (¬ band A B i (wide x))) := by
  have hn := nm_row M hM
  unfold k0_pay67
  generalize k0_pay65 (F := Ideal) M = N at hn ⊢
  pointwise [hn]
  by_cases h2 : band A B i (wide x) <;> simp [h2]

/-- One row's loss from what its lanes hold. -/
theorem loss_row (n : ℕ) (hn : n < 8) (hi : i.val = n * 512 + r.val) (P Q C SA : FVec Ideal S512x1 .f32)
    (M : IVec S512x4096 1) (E : FVec Ideal S512x4096 .f32) (K : FVec Ideal S512x512 .f32) (O : IVec S512x512 1)
    (hp : P (ix2 r 0) = (score A B i i : EReal)) (hm : ∀ j, M (ix2 r j) = BitVec.ofBool (decide (band A B i j)))
    (he : ∀ j, E (ix2 r j) = (ex (score A B i j) : EReal)) (hq : Q (ix2 r 0) = (ex (score A B i i) : EReal))
    (hc : C (ix2 r 0) = (reach A B i : EReal))
    (hs : SA (ix2 r 0) = (((∑ j, if thr A B i ≤ fillNeg (score A B i) (band A B i) j then ex (score A B i j) else 0)
          + (129 - reach A B i) * ex (thr A B i) + ex (score A B i i) : ℝ) : EReal))
    (hk : ∀ x : Fin 512, K (ix2 r x) = ((rank (band A B i) (wide x) : ℝ) : EReal))
    (ho : ∀ x : Fin 512, O (ix2 r x) = BitVec.ofBool (decide (¬ band A B i (wide x)))) :
    (Ideal.log (if Ideal.ofBits FTy.f32 1124139008#32 ≤ C (ix2 r 0) then SA (ix2 r 0)
        else
          ∑ y, Scalar.select (M (ix2 r y)) (E (ix2 r y)) 0 + Q (ix2 r 0) +
            ∑ y : Fin 512,
              Scalar.select
                (IntOp.andi
                  (IntOp.andi (O (ix2 r y)) (BitVec.ofBool (decide (K (ix2 r y) ≤ Ideal.ofBits FTy.f32 1124139008#32 - C (ix2 r 0)))))
                  (IntOp.cmpi CmpIPredicate.ne (BitVec.ofNat 32 ↑y)
                    (IntOp.addi (BitVec.ofNat 32 ↑r) (Scalar.muli (BitVec.ofNat 32 n) 512#32))))
                (E (ix2 r (wide y))) 0)
      - P (ix2 r 0) * Named.named (F := Ideal) Cert.KernelIdeal.κ "inv_t" (φ := .f32) 1097110089#32)
      = lossE A B i := by
  have hne : ∀ y : Fin 512, IntOp.cmpi CmpIPredicate.ne (BitVec.ofNat 32 ↑y)
      (IntOp.addi (BitVec.ofNat 32 ↑r) (Scalar.muli (BitVec.ofNat 32 n) 512#32)) = BitVec.ofBool (decide (wide y ≠ i)) := by
    intro y
    have hy : y.val < 512 := y.isLt
    have hr : r.val < 512 := r.isLt
    have e1 : IntOp.addi (BitVec.ofNat 32 ↑r) (Scalar.muli (BitVec.ofNat 32 n) 512#32) = BitVec.ofNat 32 i.val := by
      rw [hi, Nat.add_comm, BitVec.ofNat_add, BitVec.ofNat_mul]
      rfl
    have e2 : (wide y ≠ i) ↔ y.val ≠ i.val := not_congr Fin.ext_iff
    have hi' : i.val < 4096 := i.isLt
    rw [e1]
    simp only [e2]
    word_cmp
  unfold lossE
  rw [hp, inv_t, ← EReal.coe_mul]
  refine congrArg₂ (· - ·) (congrArg Ideal.log ?_) rfl
  have hs1 : ∑ y, Scalar.select (M (ix2 r y)) (E (ix2 r y)) 0
      = ((∑ j, if band A B i j then ex (score A B i j) else 0 : ℝ) : EReal) := by
    rw [← coe_sum]
    refine sum_congr rfl fun y _ => ?_
    rw [hm, he]
    unfold Scalar.select
    simp only [WordCmp.ofBool_eq_one_iff', decide_eq_true_eq]
    split
    · rfl
    · exact EReal.coe_zero.symm
  have hs2 : ∑ y : Fin 512, Scalar.select
        (IntOp.andi
          (IntOp.andi (O (ix2 r y)) (BitVec.ofBool (decide (K (ix2 r y) ≤ Ideal.ofBits FTy.f32 1124139008#32 - C (ix2 r 0)))))
          (IntOp.cmpi CmpIPredicate.ne (BitVec.ofNat 32 ↑y)
            (IntOp.addi (BitVec.ofNat 32 ↑r) (Scalar.muli (BitVec.ofNat 32 n) 512#32))))
        (E (ix2 r (wide y))) 0
      = ((∑ j : Fin 4096, if j.val < 512 ∧ ¬ band A B i j ∧ (rank (band A B i) j : ℝ) ≤ 129 - reach A B i ∧ j ≠ i
          then ex (score A B i j) else 0 : ℝ) : EReal) := by
    rw [sum_first _ fun j hj => if_neg fun h => by omega, ← coe_sum]
    refine sum_congr rfl fun y _ => ?_
    have hy : (wide y).val < 512 := y.isLt
    rw [hne, ho, hc, Consts.ofBits_129, he]
    have hd : BitVec.ofBool (decide (K (ix2 r y) ≤ ((129 : ℝ) : EReal) - (reach A B i : EReal)))
        = BitVec.ofBool (decide ((rank (band A B i) (wide y) : ℝ) ≤ 129 - reach A B i)) := by
      rw [← EReal.coe_sub]
      simp only [hk, EReal.coe_le_coe_iff]
    rw [hd, WordCmp.andi_ofBool, WordCmp.andi_ofBool]
    unfold Scalar.select
    simp only [WordCmp.ofBool_eq_one_iff', Bool.and_eq_true, decide_eq_true_eq, hy, true_and, and_assoc]
    split
    · rfl
    · exact EReal.coe_zero.symm
  rw [hs1, hs2, hs, hq, hc, Consts.ofBits_129, ← EReal.coe_add, ← EReal.coe_add]
  unfold kerSum
  simp only [EReal.coe_le_coe_iff]
  by_cases h129 : (129 : ℝ) ≤ reach A B i
  · rw [if_pos h129]
    exact congrArg _ (if_pos h129).symm
  · rw [if_neg h129]
    exact congrArg _ (if_neg h129).symm

theorem block_gen (arg0 : BitVec 32) (P : FVec Ideal S512x1 .f32) (M : IVec S512x4096 1) (E : FVec Ideal S512x4096 .f32)
    (Q C SA : FVec Ideal S512x1 .f32) (K : FVec Ideal S512x512 .f32) (O : IVec S512x512 1) (acc : FVec Ideal S1x1 .f32) :
    k0_pay70 (F := Ideal) arg0 P M E Q C SA K O k0_pay68 acc (ix2 0 0)
      = acc (ix2 0 0) + ∑ r : Fin 512,
    (Ideal.log (if Ideal.ofBits FTy.f32 1124139008#32 ≤ C (ix2 r 0) then SA (ix2 r 0)
        else
          ∑ y, Scalar.select (M (ix2 r y)) (E (ix2 r y)) 0 + Q (ix2 r 0) +
            ∑ y : Fin 512,
              Scalar.select
                (IntOp.andi
                  (IntOp.andi (O (ix2 r y)) (BitVec.ofBool (decide (K (ix2 r y) ≤ Ideal.ofBits FTy.f32 1124139008#32 - C (ix2 r 0)))))
                  (IntOp.cmpi CmpIPredicate.ne (BitVec.ofNat 32 ↑y)
                    (IntOp.addi (BitVec.ofNat 32 ↑r) (Scalar.muli arg0 512#32))))
                (E (ix2 r (wide y))) 0)
      - P (ix2 r 0) * Named.named (F := Ideal) Cert.KernelIdeal.κ "inv_t" (φ := .f32) 1097110089#32) := by
  pointwise [k0_pay70, k0_pay68]
  refine congrArg (acc (ix2 0 0) + ·) (sum_congr rfl fun r _ => ?_)
  rw [Fin.sum_univ_one]

/-- THE BLOCK: the running total plus the block's losses. -/
theorem block_total (n : ℕ) (hn : n < 8) (row : Fin 512 → Fin 4096) (hrow : ∀ r, (row r).val = n * 512 + r.val)
    (h : ∀ r, Holds v3 v12 v16 r A B (row r)) (acc : FVec Ideal S1x1 .f32) :
    k0_pay70 (F := Ideal) (BitVec.ofNat 32 n) (k0_pay4 v3 v16) (k0_pay5 (F := Ideal) v3 v12 v16) (k0_pay7 v3 v12) (k0_pay8 v3 v16)
        (k0_pay63 (k0_pay6 v3 v12 v16) (q181 v3 v12 v16) (q183 v3 v12 v16))
        (k0_pay64 (k0_pay6 v3 v12 v16) (k0_pay7 v3 v12) (k0_pay8 v3 v16) (q181 v3 v12 v16) (q183 v3 v12 v16))
        (k0_pay66 (k0_pay5 (F := Ideal) v3 v12 v16)) (k0_pay67 (F := Ideal) (k0_pay5 (F := Ideal) v3 v12 v16)) k0_pay68 acc (ix2 0 0)
      = acc (ix2 0 0) + ∑ r, lossE A B (row r) := by
  rw [block_gen]
  refine congrArg (acc (ix2 0 0) + ·) (sum_congr rfl fun r _ => ?_)
  exact loss_row n hn (hrow r) _ _ _ _ _ _ _ _ (pos_row (h r)) (band_row (h r)) (e_row (h r)) (epos_row (h r))
    (reach_row (h r)) (sa_row (h r)) (rank_row _ (band_row (h r))) (out_row _ (band_row (h r)))

end Block

end Cert.KernelIdeal.Row

end
-- ==== Proof.KernelOut.lean ====
/- What one grid point of the kernel leaves in its output block and in its scratch. -/
module

public import proofs.«01_k».proof.Proof.Gen.KernelIdeal.Frame
public import proofs.«01_k».proof.Proof.KernelRow
public import Idealize.ShloMosaic.Lib.Pipeline.ValueKit
public import Idealize.ShloMosaic.Lib.Pipeline.ReadBack
public import Idealize.ShloMosaic.Lib.Pipeline.ValueKit.Held

@[expose] public section

set_option maxRecDepth 16384

noncomputable section

namespace Cert.KernelIdeal.Total

open Idealize.ShloMosaic Idealize.ShloMosaic.TcCoe Idealize.SL.Sem
open Cert.KernelIdeal Cert.KernelIdeal.Gen Cert.KernelIdeal.Row
open Idealize.ShloMosaic.Pipeline (Dat Cfg Window)
open Cert.Row Cert.Norm Finset

/-- What a grid point stores: the total before it plus its own rows' losses, as the kernel's operations. -/
def step (n : BitVec 32) (v3 : FVec Ideal S512x32 .f32) (v12 : FVec Ideal S4096x32 .f32) (v16 : FVec Ideal S512x32 .f32)
    (acc : FVec Ideal S1x1 .f32) : FVec Ideal S1x1 .f32 :=
  k0_pay70 (F := Ideal) n (k0_pay4 v3 v16) (k0_pay5 (F := Ideal) v3 v12 v16) (k0_pay7 v3 v12) (k0_pay8 v3 v16)
    (k0_pay63 (k0_pay6 v3 v12 v16) (q181 v3 v12 v16) (q183 v3 v12 v16))
    (k0_pay64 (k0_pay6 v3 v12 v16) (k0_pay7 v3 v12) (k0_pay8 v3 v16) (q181 v3 v12 v16) (q183 v3 v12 v16))
    (k0_pay66 (k0_pay5 (F := Ideal) v3 v12 v16)) (k0_pay67 (F := Ideal) (k0_pay5 (F := Ideal) v3 v12 v16)) k0_pay68 acc

/-- The 512 rows of the normalised table that a grid point reads. -/
def own (i : grid0.Coords) (v12 : FVec Ideal S4096x32 .f32) : FVec Ideal S512x32 .f32 :=
  View.ld (Val := Elt Ideal) (e' := .f32) v12 (Rect.unit (s := S4096x32) (k0_off1 i) S512x32.size (k0_off1_inb i))

variable (c : Dev nD) (i : grid0.Coords) (arg1 : Memref sig .tc .vmem S512x32 .f32) (harg1 : arg1.IsWhole)
  (arg2 : Memref sig .tc .vmem S4096x32 .f32) (harg2 : arg2.IsWhole) (arg3 : Memref sig .tc .vmem S1x1 .f32) (harg3 : arg3.IsWhole)
  (arg4 : Memref sig .tc .vmem S4096x32 .f32) (harg4 : arg4.IsWhole)
  (x0 : Vec Ideal S512x32 .f32) (x1 : Vec Ideal S4096x32 .f32)

theorem scratch_first (hc0 : cond0_0 i) (hc1 : cond0_1 i) :
    sout0_A_0 c i arg1 harg1 arg2 harg2 arg3 harg3 arg4 harg4 hc0 hc1 x0 x1 = k0_pay1 x1 := by
  frame_out

theorem out_later (hc0 : ¬ cond0_0 i) (hc1 : ¬ cond0_1 i) (xo : Vec Ideal S1x1 .f32) (xs : Vec Ideal S4096x32 .f32) :
    out0_B_2 c i arg1 harg1 arg2 harg2 arg3 harg3 arg4 harg4 hc0 hc1 x0 x1 xo xs
      = step (BitVec.ofNat 32 (i 0).val) x0 xs (own i xs) xo := by
  frame_out
  simp only [step, own]
  refine congrArg₂ (fun C SA => k0_pay70 _ _ _ _ _ C SA _ _ _ _) (congrArg₂ (k0_pay63 _) ?_ ?_) (congrArg₂ (k0_pay64 _ _ _) ?_ ?_)
  all_goals sl_kernel_rfl

theorem out_first (hc0 : cond0_0 i) (hc1 : cond0_1 i) :
    out0_A_2 c i arg1 harg1 arg2 harg2 arg3 harg3 arg4 harg4 hc0 hc1 x0 x1
      = step (BitVec.ofNat 32 (i 0).val) x0 (k0_pay1 x1) (own i (k0_pay1 x1)) (k0_pay69 (F := Ideal)) := by
  frame_out
  simp only [step, own]
  refine congrArg₂ (fun C SA => k0_pay70 _ _ _ _ _ C SA _ _ _ _) (congrArg₂ (k0_pay63 _) ?_ ?_) (congrArg₂ (k0_pay64 _ _ _) ?_ ?_)
  all_goals sl_kernel_rfl

end Cert.KernelIdeal.Total
end
-- ==== Proof.KernelSum.lean ====
/- The kernel's running total after each grid point, and the array the launch leaves. -/
module

public import proofs.«01_k».proof.Proof.KernelOut
public import Idealize.ShloMosaic.Lib.Pipeline.ValueKit
public import Idealize.ShloMosaic.Lib.WordCmp
public import Idealize.ShloMosaic.Lib.StableHlo.Run
public import Idealize.ShloMosaic.Lib.Pipeline.ReadBack
public import Idealize.ShloMosaic.Lib.Pipeline.ValueKit.Held

@[expose] public section

set_option maxRecDepth 16384

noncomputable section

namespace Cert.KernelIdeal.Total

open Idealize.ShloMosaic Idealize.ShloMosaic.TcCoe Idealize.SL.Sem
open Cert.KernelIdeal Cert.KernelIdeal.Gen Cert.KernelIdeal.Row
open Idealize.ShloMosaic.Pipeline (Dat Cfg Window)
open Cert.Row Cert.Norm Finset

section Launch

variable (m : (ℓ : Loc nD τ sig) → Buf (Elt Ideal) ℓ) (c : Dev nD)

/-- The two tables as the launch finds them. -/
abbrev tabA (i : Fin 4096) (k : Fin 32) : EReal := m ((c.tc : Thread nD τ).loc main_arg0) (ix2 i k)
abbrev tabB (i : Fin 4096) (k : Fin 32) : EReal := m ((c.tc : Thread nD τ).loc main_arg1) (ix2 i k)

/-- Row `r` of grid point `t`. -/
def rowOf (t : Fin cfg0.N) (r : Fin 512) : Fin 4096 :=
  ⟨t.val * 512 + r.val, by have := lt_of_lt_of_eq t.isLt (show cfg0.N = 8 from N_0); omega⟩

theorem coord (t : Fin cfg0.N) : (grid0.coords t 0).val = t.val := by
  have ht : t.val < 8 := lt_of_lt_of_eq t.isLt (show cfg0.N = 8 from N_0)
  have e0 : (grid0.coords t 0).val = t.val / 1 % 8 := Pipeline.Grid.coords_val t 0 (by decide) rfl
  omega

theorem index_eq : ∀ t : Fin cfg0.N, win0_0.index t = ![(grid0.coords t 0).val, 0] ∧ win0_1.index t = ![0, 0] := by
  decide +kernel

theorem blkA (t : Fin cfg0.N) (r : Fin 512) (k : Fin 32) :
    iblk m c 0 t (ix2 r k) = tabA m c (rowOf t r) k := by
  have h := coord t
  unfold rowOf tabA
  blk_ext [iblk, V, index_eq t]

theorem blkB (t : Fin cfg0.N) (j : Fin 4096) (k : Fin 32) :
    iblk m c 1 t (ix2 j k) = tabB m c j k := by
  unfold tabB
  blk_ext [iblk, V, index_eq t]

theorem own_apply (t : Fin cfg0.N) (x : FVec Ideal S4096x32 .f32) (r : Fin 512) (k : Fin 32) :
    own (grid0.coords t) x (ix2 r k) = x (ix2 (rowOf t r) k) := by
  have h := coord t
  have ht : t.val < 8 := lt_of_lt_of_eq t.isLt (show cfg0.N = 8 from N_0)
  have h0 : k0_off1 (grid0.coords t) = ![t.val * 512, 0] := by
    funext a
    fin_cases a
    · show (Scalar.indexCast (Scalar.muli (BitVec.ofNat 32 (grid0.coords t 0).val) 512#32) : Index).toNat = t.val * 512
      rw [h]
      unfold Scalar.indexCast Scalar.muli
      interval_cases t.val <;> rfl
    · rfl
  unfold own
  refine View.ld_unit_apply_of (Val := Elt Ideal) (e := .f32) (S := S4096x32) x _ _ _ (ix2 r k) (ix2 (rowOf t r) k) fun a => ?_
  refine Eq.trans ?_ (congrArg (· + ((ix2 r k : S512x32.Idx) a).val) (congrFun h0 a).symm)
  fin_cases a
  · rfl
  · exact (Nat.zero_add _).symm

theorem first_scratch (t : Fin cfg0.N) (h : t.val % 8 = 0) :
    (outsAt0 m c t.val t.isLt).2 = k0_pay1 (F := Ideal) (iblk m c 1 t) := by
  rw [outsAt0_A m c t h h]
  dsimp only
  rw [scratch_first]

theorem first_out (t : Fin cfg0.N) (h : t.val % 8 = 0) :
    (outsAt0 m c t.val t.isLt).1 = step (BitVec.ofNat 32 (grid0.coords t 0).val) (iblk m c 0 t) (k0_pay1 (F := Ideal) (iblk m c 1 t))
      (own (grid0.coords t) (k0_pay1 (F := Ideal) (iblk m c 1 t))) (k0_pay69 (F := Ideal)) := by
  rw [outsAt0_A m c t h h]
  dsimp only
  rw [out_first]

theorem later_scratch (t : Fin cfg0.N) (h : ¬ t.val % 8 = 0) :
    (outsAt0 m c t.val t.isLt).2 = (outsAt0 m c (t.val - 1) (Nat.lt_of_le_of_lt (Nat.sub_le _ _) t.isLt)).2 := by
  rw [outsAt0_B m c t h h]
  dsimp only
  unfold sout0_B_0
  rfl

theorem later_out (t : Fin cfg0.N) (h : ¬ t.val % 8 = 0) :
    (outsAt0 m c t.val t.isLt).1 = step (BitVec.ofNat 32 (grid0.coords t 0).val) (iblk m c 0 t)
      (outsAt0 m c (t.val - 1) (Nat.lt_of_le_of_lt (Nat.sub_le _ _) t.isLt)).2
      (own (grid0.coords t) (outsAt0 m c (t.val - 1) (Nat.lt_of_le_of_lt (Nat.sub_le _ _) t.isLt)).2)
      (outsAt0 m c (t.val - 1) (Nat.lt_of_le_of_lt (Nat.sub_le _ _) t.isLt)).1 := by
  rw [outsAt0_B m c t h h]
  dsimp only
  rw [out_later]

/-- The scratch holds the normalised second table after every point. -/
theorem scratch (t : Fin cfg0.N) (j : Fin 4096) (k : Fin 32) :
    (outsAt0 m c t.val t.isLt).2 (ix2 j k) = nrm (tabB m c j) k := by
  have h := Pipeline.eq_of_write_hold_apply (fun n h => (outsAt0 m c n h).2) 8 (fun t => k0_pay1 (F := Ideal) (iblk m c 1 t))
    (fun t h y => congrFun (first_scratch m c t h) y)
    (fun t h y => congrFun (later_scratch m c t h) y) t (ix2 j k)
  refine h.trans ((pay1_row _ j k).trans ?_)
  exact congrArg (fun f => nrm f k) (funext fun k' => blkB m c _ j k')

theorem step_apply (t : Fin cfg0.N) (x0 : FVec Ideal S512x32 .f32) (xs : FVec Ideal S4096x32 .f32) (acc : FVec Ideal S1x1 .f32)
    (A B : Fin 4096 → Fin 32 → EReal) (h0 : ∀ r k, x0 (ix2 r k) = A (rowOf t r) k) (hs : ∀ j k, xs (ix2 j k) = nrm (B j) k)
    (y : S1x1.Idx) :
    step (BitVec.ofNat 32 (grid0.coords t 0).val) x0 xs (own (grid0.coords t) xs) acc y
      = acc y + ∑ r, lossE A B (rowOf t r) := by
  have hy : y = ix2 0 0 := by
    funext a
    fin_cases a <;> exact Subsingleton.elim (α := Fin 1) _ _
  subst hy
  rw [coord t]
  unfold step
  exact block_total t.val (lt_of_lt_of_eq t.isLt (show cfg0.N = 8 from N_0)) (rowOf t) (fun _ => rfl)
    (fun r => ⟨h0 r, hs, fun k => (own_apply t xs r k).trans (hs _ k)⟩) acc

/-- The total after the last point. -/
theorem total (t : Fin cfg0.N) (ht : t.val + 1 = cfg0.N) (y : S1x1.Idx) :
    (outsAt0 m c t.val t.isLt).1 y
      = 0 + ∑ p : Fin cfg0.N, ∑ r, lossE (tabA m c) (tabB m c) (rowOf p r) := by
  refine Pipeline.eq_sum_fin_of_reset_step_apply_last (fun n h => (outsAt0 m c n h).1) 8 (fun _ => (0 : EReal))
    (fun p _ => ∑ r, lossE (tabA m c) (tabB m c) (rowOf p r)) ?_ ?_ (le_of_eq N_0) t ht y
  · intro t h y
    refine (congrFun (first_out m c t h) y).trans ((step_apply t _ _ _ (tabA m c) (tabB m c) (blkA m c t) (fun j k => ?_) y).trans ?_)
    · exact (pay1_row _ j k).trans (congrArg (fun f => nrm f k) (funext fun k' => blkB m c t j k'))
    · refine congrArg (· + _) ?_
      pointwise [k0_pay69]
  · intro t h y
    refine (congrFun (later_out m c t h) y).trans (step_apply t _ _ _ (tabA m c) (tabB m c) (blkA m c t) (fun j k => ?_) y)
    exact scratch m c ⟨t.val - 1, Nat.lt_of_le_of_lt (Nat.sub_le _ _) t.isLt⟩ j k

/-- The sum of all rows' losses. -/
theorem total_rows (A B : Fin 4096 → Fin 32 → EReal) :
    ∑ p : Fin cfg0.N, ∑ r, lossE A B (rowOf p r) = ∑ i, lossE A B i :=
  (Fin.sum_univ_tiles cfg0.N 512 (by rw [show cfg0.N = 8 from N_0]) (lossE A B)).symm

/-- The last grid point. -/
def lastPt : Fin cfg0.N := ⟨7, by rw [show cfg0.N = 8 from N_0]; decide⟩

theorem array : (dats m 0 c).arrAt 2 cfg0.N = fun _ => ∑ i, lossE (tabA m c) (tabB m c) i := by
  refine (dats m 0 c).arrAt_eq_of_after_last 2 lastPt (by decide +kernel) _ fun j => ?_
  blk_simp
  rw [after0_2, total m c lastPt N_0.symm, zero_add, total_rows]

/-- The kernel's result. -/
theorem run (ρ : Dev nD → PrngReg) :
    θ_run defs (onTc (τ := τ) (main (F := Ideal))) ⟨m, fun _ => 0, ρ⟩ fun r => ∀ c : Dev nD,
      r.2.mem ((c.tc : Thread nD τ).loc main_v2) = (fun _ => Ideal.div (∑ i, lossE (tabA m c) (tabB m c) i) (4096 : ℝ))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨?_, ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩) (run_main m ρ)
  refine ((h c).2 main_v2 (by decide)).trans ?_
  unfold Pipeline.afterTail₀
  simp only [List.flatten_cons, List.flatten_nil, List.append_nil, hostOps1]
  after_results
  have e : Pipeline.withArrays (cfgs 0).spec c (V0 m c) (fun w => (dats m 0 c).arrAt w (cfgs 0).N) (Proc.tc.devRef main_v0)
      = (dats m 0 c).arrAt 2 cfg0.N :=
    Pipeline.withArrays_arr (cfgs 0).spec (by decide) c (V0 m c) (fun w => (dats m 0 c).arrAt w (cfgs 0).N) 2
  rw [e, array]
  funext x
  pointwise []
  rw [Consts.ofBits_4096]

end Launch

end Cert.KernelIdeal.Total
end
-- ==== Proof.RefStages.lean ====
/- The reference's result, stage by stage. -/
module

public import proofs.«01_k».proof.Proof.Gen.ReferenceIdeal.Run
public import proofs.«01_k».proof.Pre_separated
public import Idealize.ShloMosaic.Lib.Pointwise

@[expose] public section

set_option maxRecDepth 16384

noncomputable section

namespace Cert.ReferenceIdeal.Stage

open Cert.ReferenceIdeal Cert.ReferenceIdeal.Gen Idealize.ShloMosaic Idealize.ShloMosaic.TcCoe Idealize.SL.Sem Idealize.ShloMosaic.StableHlo

/-- A table with each row divided by its length. -/
def rNorm (X : FVec Ideal S4096x32 .f32) : FVec Ideal S4096x32 .f32 :=
  Host.divf X (broadcastInDim S4096x32 ![0, 1] bcast_S4096x1_S4096x32_0_1 (maximumf (Host.sqrt (broadcastInDim S4096x1 ![0] bcast_S4096_S4096x1_0 (Host.reduceAdd (mulf X X) (constant S_ .f32 0x00000000#32) reducesTo_S4096x32_S4096_d1 h_S_))) (broadcastInDim S4096x1 ![] bcast_S_S4096x1 (constant S_ .f32 0x2B8CBCCC#32))))

/-- The products of the normalised rows. -/
def rSim (A B : FVec Ideal S4096x32 .f32) : FVec Ideal S4096x4096 .f32 :=
  Host.dotGeneral dot_S4096x32_S32x4096_S4096x4096_1_0_0_1_n_n none (rNorm A) (transpose S32x4096 [1, 0] (rNorm B) transposes_S4096x32_S32x4096_1_0)

/-- The diagonal. -/
def rEye  : IVec S4096x4096 1 :=
  cmpi .eq (addi (iotaInDim S4096x4096 32 0) (broadcastInDim S4096x4096 ![] bcast_S_S4096x4096 (constantI S_ 32 0#32))) (iotaInDim S4096x4096 32 1)

/-- Each row's diagonal product. -/
def rPos (A B : FVec Ideal S4096x32 .f32) : FVec Ideal S4096 .f32 :=
  Host.reduceAdd (select rEye (rSim A B) (broadcastInDim S4096x4096 ![] bcast_S_S4096x4096 (id (constant S_ .f32 0x00000000#32)))) (constant S_ .f32 0x00000000#32) reducesTo_S4096x4096_S4096_d1 h_S_

/-- The columns whose product lies in the band. -/
def rNeg (A B : FVec Ideal S4096x32 .f32) : IVec S4096x4096 1 :=
  andi (andi (cmpf .ole (rSim A B) (broadcastInDim S4096x4096 ![0, 1] bcast_S4096x1_S4096x4096_0_1 (mulf (broadcastInDim S4096x1 ![0] bcast_S4096_S4096x1_0 (rPos A B)) (broadcastInDim S4096x1 ![] bcast_S_S4096x1 (constant S_ .f32 0x3F733333#32))))) (cmpf .oge (rSim A B) (broadcastInDim S4096x4096 ![0, 1] bcast_S4096x1_S4096x4096_0_1 (mulf (broadcastInDim S4096x1 ![0] bcast_S4096_S4096x1_0 (rPos A B)) (broadcastInDim S4096x1 ![] bcast_S_S4096x1 (constant S_ .f32 0x3D4CCCCD#32)))))) (noti rEye)

/-- The products in the band, minus infinity elsewhere. -/
def rCand (A B : FVec Ideal S4096x32 .f32) : FVec Ideal S4096x4096 .f32 :=
  select (rNeg A B) (rSim A B) (broadcastInDim S4096x4096 ![] bcast_S_S4096x4096 (id (constant S_ .f32 0xFF800000#32)))

/-- The columns of the 129 greatest of each row. -/
def rIdx (A B : FVec Ideal S4096x32 .f32) : IVec S4096x129 32 :=
  (Host.topK S4096x129 1 (FloatOps.cmpfTotal .gt) (rCand A B) sliceFits_S4096x4096_S4096x129).2

/-- The row numbers the marks are written at. -/
def rRows  : IVec S4096x129x1 32 :=
  broadcastInDim S4096x129x1 ![0, 1] bcast_S4096x129_S4096x129x1_0_1 (broadcastInDim S4096x129 ![0, 1] bcast_S4096x1_S4096x129_0_1 (select (cmpi .slt (broadcastInDim S4096x1 ![0] bcast_S4096_S4096x1_0 (iotaInDim S4096 32 0)) (broadcastInDim S4096x1 ![] bcast_S_S4096x1 (constantI S_ 32 0#32))) (addi (broadcastInDim S4096x1 ![0] bcast_S4096_S4096x1_0 (iotaInDim S4096 32 0)) (broadcastInDim S4096x1 ![] bcast_S_S4096x1 (constantI S_ 32 4096#32))) (broadcastInDim S4096x1 ![0] bcast_S4096_S4096x1_0 (iotaInDim S4096 32 0))))

/-- The column numbers the marks are written at. -/
def rCols (A B : FVec Ideal S4096x32 .f32) : IVec S4096x129x1 32 :=
  broadcastInDim S4096x129x1 ![0, 1] bcast_S4096x129_S4096x129x1_0_1 (select (cmpi .slt (rIdx A B) (broadcastInDim S4096x129 ![] bcast_S_S4096x129 (constantI S_ 32 0#32))) (addi (rIdx A B) (broadcastInDim S4096x129 ![] bcast_S_S4096x129 (constantI S_ 32 4096#32))) (rIdx A B))

/-- The marks of the 129 greatest. -/
def rHit (A B : FVec Ideal S4096x32 .f32) : IVec S4096x4096 1 :=
  Host.scatter scatter_S4096x4096_S4096x129x2_S4096x129_n_01_01_2 (fun _ b => b) (broadcastInDim S4096x4096 ![] bcast_S_S4096x4096 (constantI S_ 1 0#1)) (concatenate S4096x129x2 2 [⟨S4096x129x1, rRows⟩, ⟨S4096x129x1, (rCols A B)⟩] concatenates_S4096x129x1_S4096x129x1_S4096x129x2_d2) (broadcastInDim S4096x129 ![] bcast_S_S4096x129 (constantI S_ 1 1#1))

/-- The marks off the diagonal. -/
def rMask (A B : FVec Ideal S4096x32 .f32) : IVec S4096x4096 1 :=
  andi (rHit A B) (noti rEye)

/-- Whether a row has a mark. -/
def rOk (A B : FVec Ideal S4096x32 .f32) : IVec S4096 1 :=
  Host.reduce IntOp.ori (rMask A B) (constantI S_ 1 0#1) reducesTo_S4096x4096_S4096_d1 h_S_

/-- Each row's loss. -/
def rLoss (A B : FVec Ideal S4096x32 .f32) : FVec Ideal S4096 .f32 :=
  subf (Host.log (Host.reduceAdd (Host.exp (select (ori (rMask A B) rEye) (Host.divf (rSim A B) (broadcastInDim S4096x4096 ![] bcast_S_S4096x4096 (Host.divf (constant S_ .f32 0x40E00000#32) (constant S_ .f32 0x42C80000#32)))) (broadcastInDim S4096x4096 ![] bcast_S_S4096x4096 (id (constant S_ .f32 0xFF800000#32))))) (constant S_ .f32 0x00000000#32) reducesTo_S4096x4096_S4096_d1 h_S_)) (Host.divf (rPos A B) (broadcastInDim S4096 ![] bcast_S_S4096 (Host.divf (constant S_ .f32 0x40E00000#32) (constant S_ .f32 0x42C80000#32))))

/-- How many rows have a mark. -/
def rCount (A B : FVec Ideal S4096x32 .f32) : FVec Ideal S_ .f32 :=
  Host.reduceAdd (uitofp .f32 (rOk A B)) (constant S_ .f32 0x00000000#32) reducesTo_S4096_S_d0 h_S_

/-- The mean loss. -/
def rOut (A B : FVec Ideal S4096x32 .f32) : FVec Ideal S_ .f32 :=
  select (cmpf .ogt (rCount A B) (constant S_ .f32 0x00000000#32)) (Host.divf (Host.reduceAdd (select (rOk A B) (rLoss A B) (broadcastInDim S4096 ![] bcast_S_S4096 (id (constant S_ .f32 0x00000000#32)))) (constant S_ .f32 0x00000000#32) reducesTo_S4096_S_d0 h_S_) (maximumf (rCount A B) (constant S_ .f32 0x3F800000#32))) (id (constant S_ .f32 0x00000000#32))

/-- The reference's run ends with the last stage. -/
theorem res_eq (m : (ℓ : Loc nD τ sig) → Buf (Elt Ideal) ℓ) (c : Dev nD) :
    Value.res_main_v73 (F := Ideal) m c
      = rOut (m ((c.tc : Thread nD τ).loc main_arg0)) (m ((c.tc : Thread nD τ).loc main_arg1)) := by
  unfold Value.res_main_v73
  simp only [rOut, rCount, rLoss, rOk, rMask, rHit, rCols, rRows, rIdx, rCand, rNeg, rPos, rEye, rSim, rNorm]

/-- The precondition's tests, over the reference's stages. -/
theorem pre_eq [Cert.Pre_separated.Facts] (A B : FVec Ideal S4096x32 .f32) :
    Cert.Pre_separated.fn (F := Ideal) A B = Cert.Pre_separated.fn_part1 (F := Ideal) (rSim A B) rEye (rPos A B) := rfl

end Cert.ReferenceIdeal.Stage
end
-- ==== Proof.TopRow.lean ====
/- The stable sort by value, and the set of its first 129 positions. -/
module

public import proofs.«01_k».proof.Proof.RowMath
public import Idealize.ShloMosaic.Lib.SortFacts
public import Idealize.ShloMosaic.Lib.Pointwise

@[expose] public section

noncomputable section

namespace Cert.Top

open Idealize.ShloMosaic Finset Cert.Row

variable {n : ℕ}

/-- Greater first. -/
def byVal (v : Fin n → EReal) (a b : Fin n) : Bool := decide (v b < v a)

/-- Greater first, and of equals the earlier first. -/
def byBoth (v : Fin n → EReal) (a b : Fin n) : Bool := decide (v b < v a ∨ (v a = v b ∧ a < b))

/-- On a list in position order the stable sort by value already breaks ties by position. -/
theorem sort_both (v : Fin n → EReal) (l : List (Fin n)) (hl : l.Pairwise (· < ·)) :
    stableSort (byVal v) l = stableSort (byBoth v) l := by
  induction l with
  | nil => rfl
  | cons a l ih =>
    rw [List.pairwise_cons] at hl
    unfold stableSort
    rw [ih hl.2]
    refine insertBefore_congr _ _ a _ fun b hb => ?_
    have hb' : a < b := hl.1 b ((perm_stableSort _ l).mem_iff.1 hb)
    unfold byVal byBoth
    refine decide_eq_decide.2 ⟨Or.inl, fun h => h.elim id fun h => absurd h.2 (not_lt.2 hb'.le)⟩

theorem sorted_both (v : Fin n → EReal) : sortedFrom (byVal v) = sortedFrom (byBoth v) := by
  funext k
  unfold sortedFrom
  have h : sortPositions n (byVal v) = sortPositions n (byBoth v) :=
    sort_both v _ (List.pairwise_lt_finRange n)
  rw [List.get_of_eq h]
  rfl

/-- The order is total on distinct positions, and an earlier sorted position comes first in it. -/
theorem sorted_lt (v : Fin n → EReal) (i j : Fin n) (hij : i < j) :
    v (sortedFrom (byVal v) j) < v (sortedFrom (byVal v) i)
      ∨ (v (sortedFrom (byVal v) i) = v (sortedFrom (byVal v) j) ∧ sortedFrom (byVal v) i < sortedFrom (byVal v) j) := by
  have hne : sortedFrom (byBoth v) i ≠ sortedFrom (byBoth v) j := fun h => hij.ne (sortedFrom_injective _ h)
  have h := sortedFrom_noInversion (byBoth v) (byBoth v) (fun a b h => ?_) (fun _ _ h => h) (fun a b c h1 h2 => ?_) i j hij
  · rw [sorted_both]
    generalize sortedFrom (byBoth v) i = a at h hne ⊢
    generalize sortedFrom (byBoth v) j = b at h hne ⊢
    have h' := of_decide_eq_false h
    rw [not_or, not_lt, not_and, not_lt] at h'
    rcases lt_or_eq_of_le h'.1 with h1 | h1
    · exact Or.inl h1
    · exact Or.inr ⟨h1.symm, lt_of_le_of_ne (h'.2 h1) hne⟩
  · have h' := of_decide_eq_true h
    refine decide_eq_false fun h2 => ?_
    rcases h' with h1 | h1 <;> rcases h2 with h2 | h2
    · exact absurd h1 (not_lt.2 h2.le)
    · exact absurd h2.1 h1.ne
    · exact absurd h1.1 h2.ne
    · exact absurd h1.2 (not_lt.2 h2.2.le)
  · have h1' := of_decide_eq_false h1
    have h2' := of_decide_eq_false h2
    rw [not_or, not_lt, not_and, not_lt] at h1' h2'
    refine decide_eq_false fun h3 => ?_
    rcases h3 with h3 | h3
    · exact absurd h3 (not_lt.2 (h1'.1.trans h2'.1))
    · have e1 : v a = v b := le_antisymm h1'.1 (h3.1 ▸ h2'.1)
      have e2 : v b = v c := e1 ▸ h3.1
      exact absurd h3.2 (not_lt.2 ((h2'.2 e2).trans (h1'.2 e1)))

/-- The positions that the sort puts first, 129 of them. -/
def first (h : 129 ≤ n) (v : Fin n → EReal) : Finset (Fin n) :=
  univ.image fun p : Fin 129 => sortedFrom (byVal v) ⟨p.val, by omega⟩

theorem mem_first (h : 129 ≤ n) (v : Fin n → EReal) (a : Fin n) :
    a ∈ first h v ↔ ∃ p : Fin 129, sortedFrom (byVal v) ⟨p.val, by omega⟩ = a := by
  simp [first]

theorem isTop_first (h : 129 ≤ n) (v : Fin n → EReal) : IsTop v (first h v) := by
  refine ⟨?_, fun a ha b hb => ?_⟩
  · unfold first
    rw [card_image_of_injective _ fun p q hpq => ?_]
    · rfl
    · have := sortedFrom_injective _ hpq
      exact Fin.ext (Fin.mk.inj this)
  · obtain ⟨p, rfl⟩ := (mem_first h v a).1 ha
    obtain ⟨q, rfl⟩ := sortedFrom_surjective (byVal v) b
    refine sorted_lt v _ q ?_
    by_contra hq
    refine hb ((mem_first h v _).2 ⟨⟨q.val, ?_⟩, rfl⟩)
    have : q.val ≤ p.val := not_lt.1 hq
    omega

theorem last_mem (h : 129 ≤ n) (v : Fin n → EReal) :
    ∃ a ∈ first h v, v a = v (sortedFrom (byVal v) ⟨128, by omega⟩) :=
  ⟨_, (mem_first h v _).2 ⟨128, rfl⟩, rfl⟩

theorem last_le (h : 129 ≤ n) (v : Fin n → EReal) :
    ∀ b ∈ first h v, v (sortedFrom (byVal v) ⟨128, by omega⟩) ≤ v b := by
  intro b hb
  obtain ⟨p, rfl⟩ := (mem_first h v b).1 hb
  by_cases hp : p.val = 128
  · have : (⟨p.val, by omega⟩ : Fin n) = ⟨128, by omega⟩ := Fin.ext hp
    rw [this]
  · rcases sorted_lt v ⟨p.val, by omega⟩ ⟨128, by omega⟩ (show p.val < 128 by omega) with h1 | h1
    · exact h1.le
    · exact h1.1.ge

variable {R : ℕ} (h : (⟨2, ![R, 4096]⟩ : Shape).Slices (fun _ => 0) ⟨2, ![R, 129]⟩) (x : FVec Ideal ⟨2, ![R, 4096]⟩ .f32)
  (i : Fin R) (p : Fin 129)

/-- A row's column through the index of a row's element. -/
theorem along_col (k k' : Fin 4096) : (ix2 i k').along (s := ⟨2, ![R, 4096]⟩) 1 k = ix2 i k := by
  funext a
  fin_cases a <;> rfl

/-- The total order of the extended reals as a comparison word. -/
theorem before_eq (a b : EReal) : (FloatOps.cmpfTotal (F := Ideal) (φ := .f32) .gt a b == 1#1) = decide (b < a) := by
  change (BitVec.ofBool (decide (b < a)) == 1#1) = decide (b < a)
  cases decide (b < a) <;> rfl

/-- The leading columns of a table. -/
theorem leading {α : Type} (y : (⟨2, ![R, 4096]⟩ : Shape).Idx → α) :
    extractStridedSlice ⟨2, ![R, 129]⟩ (fun _ => 0) y h (ix2 i p) = y (ix2 i ⟨p.val, by omega⟩) := by
  unfold extractStridedSlice
  refine congrArg y (funext fun a => Fin.ext ?_)
  fin_cases a <;> exact Nat.zero_add _

theorem sort_row {α : Type} (y : (⟨2, ![R, 4096]⟩ : Shape).Idx → α) (q : Fin 4096) :
    (Host.sort2 ⟨2, ![R, 4096]⟩ 1 (fun l r => FloatOps.cmpfTotal (F := Ideal) (φ := .f32) .gt l.1 r.1) x y).1 (ix2 i q)
        = x (ix2 i (sortedFrom (byVal fun k => x (ix2 i k)) q))
      ∧ (Host.sort2 ⟨2, ![R, 4096]⟩ 1 (fun l r => FloatOps.cmpfTotal (F := Ideal) (φ := .f32) .gt l.1 r.1) x y).2 (ix2 i q)
        = y (ix2 i (sortedFrom (byVal fun k => x (ix2 i k)) q)) := by
  have hb : (fun k k' : Fin 4096 => FloatOps.cmpfTotal (F := Ideal) (φ := .f32) .gt (x ((ix2 i q).along (s := ⟨2, ![R, 4096]⟩) 1 k))
        (x ((ix2 i q).along (s := ⟨2, ![R, 4096]⟩) 1 k')) == 1#1) = byVal fun k => x (ix2 i k) := by
    funext k k'
    rw [along_col, along_col]
    exact before_eq _ _
  have hd : (1 : ℕ) < (⟨2, ![R, 4096]⟩ : Shape).rank := Nat.one_lt_two
  unfold Host.sort2
  rw [dif_pos hd]
  constructor
  · show x ((ix2 i q).along (s := ⟨2, ![R, 4096]⟩) 1 (sortedFrom (n := 4096) _ q)) = _
    rw [along_col]
    exact congrArg (fun f => x (ix2 i (sortedFrom (n := 4096) f q))) hb
  · show y ((ix2 i q).along (s := ⟨2, ![R, 4096]⟩) 1 (sortedFrom (n := 4096) _ q)) = _
    rw [along_col]
    exact congrArg (fun f => y (ix2 i (sortedFrom (n := 4096) f q))) hb

/-- The 129 greatest along the rows of a table: the values, each at the position the sort puts there. -/
theorem topK_val :
    (Host.topK ⟨2, ![R, 129]⟩ 1 (FloatOps.cmpfTotal (F := Ideal) (φ := .f32) .gt) x h).1 (ix2 i p)
      = x (ix2 i (sortedFrom (byVal fun k => x (ix2 i k)) ⟨p.val, by omega⟩)) := by
  unfold Host.topK
  exact (leading h i p _).trans (sort_row x i
    (fun j => if hd : 1 < (⟨2, ![R, 4096]⟩ : Shape).rank then iotaInDim ⟨2, ![R, 4096]⟩ 32 ⟨1, hd⟩ j else 0#32) _).1

/-- Their positions, as words. -/
theorem topK_idx :
    (Host.topK ⟨2, ![R, 129]⟩ 1 (FloatOps.cmpfTotal (F := Ideal) (φ := .f32) .gt) x h).2 (ix2 i p)
      = BitVec.ofNat 32 (sortedFrom (byVal fun k => x (ix2 i k)) ⟨p.val, by omega⟩).val := by
  unfold Host.topK
  exact ((leading h i p _).trans (sort_row x i
    (fun j => if hd : 1 < (⟨2, ![R, 4096]⟩ : Shape).rank then iotaInDim ⟨2, ![R, 4096]⟩ 32 ⟨1, hd⟩ j else 0#32) _).2).trans
    (dif_pos Nat.one_lt_two)

end Cert.Top
end
-- ==== Proof.RefRow.lean ====
/- The reference's stages read at one row. -/
module

public import proofs.«01_k».proof.Proof.RefStages
public import proofs.«01_k».proof.Proof.RowMath
public import proofs.«01_k».proof.Proof.Consts
public import proofs.«01_k».proof.Proof.Norm
public import Idealize.ShloMosaic.Lib.Pointwise
public import Idealize.ShloMosaic.Lib.WordCmp
public import proofs.«01_k».proof.Proof.TopRow
public import Idealize.ShloMosaic.Lib.Routing.OpsPair
public import Idealize.ShloMosaic.Lib.Routing.OpsSet
public import Idealize.ShloMosaic.Lib.Routing.OpsOrder

@[expose] public section

set_option maxRecDepth 16384

noncomputable section

namespace Cert.ReferenceIdeal.Stage

open Cert.ReferenceIdeal Cert.ReferenceIdeal.Gen Idealize.ShloMosaic Idealize.ShloMosaic.TcCoe Idealize.SL.Sem Idealize.ShloMosaic.StableHlo
open Cert.Row Cert.Norm Finset

variable (A B : FVec Ideal S4096x32 .f32)

/-- A table's rows. -/
abbrev rows (X : FVec Ideal S4096x32 .f32) (i : Fin 4096) (k : Fin 32) : EReal := X (ix2 i k)

theorem rNorm_row (X : FVec Ideal S4096x32 .f32) (i : Fin 4096) (k : Fin 32) : rNorm X (ix2 i k) = nrm (rows X i) k := by
  pointwise [rNorm]
  rw [Consts.ofBits_eps]
  rfl

theorem rSim_row (i j : Fin 4096) : rSim A B (ix2 i j) = (score (rows A) (rows B) i j : EReal) := by
  pointwise [rSim]
  rw [← sum_score]
  exact sum_congr rfl fun k _ => by rw [rNorm_row, rNorm_row]

theorem and_iff : ∀ a b : BitVec 1, IntOp.andi a b = 1#1 ↔ a = 1#1 ∧ b = 1#1 := by decide

theorem or_iff : ∀ a b : BitVec 1, IntOp.ori a b = 1#1 ↔ a = 1#1 ∨ b = 1#1 := by decide

theorem not_iff : ∀ a : BitVec 1, ~~~a = 1#1 ↔ ¬ a = 1#1 := by decide

theorem rEye_row (i j : Fin 4096) : rEye (ix2 i j) = BitVec.ofBool (decide (i = j)) := by
  pointwise [rEye]
  have hi := i.isLt
  have hj := j.isLt
  have e : IntOp.addi (BitVec.ofNat 32 i.val) 0#32 = BitVec.ofNat 32 i.val := BitVec.add_zero _
  have d : decide (i = j) = decide (i.val = j.val) := by
    simp only [Fin.ext_iff]
  rw [e, d]
  word_cmp

theorem rEye_iff (i j : Fin 4096) : rEye (ix2 i j) = 1#1 ↔ i = j := by
  rw [rEye_row, WordCmp.ofBool_decide_eq_one_iff]

theorem rPos_row (i : Fin 4096) : rPos A B (ix1 i) = (score (rows A) (rows B) i i : EReal) := by
  pointwise [rPos]
  refine (sum_eq_single i (fun j _ hj => ?_) (fun h => absurd (mem_univ i) h)).trans ?_
  · unfold Scalar.select
    exact (if_neg fun h => hj ((rEye_iff i j).1 h).symm).trans Ideal.ofBits_zero_f32
  · unfold Scalar.select
    exact (if_pos ((rEye_iff i i).2 rfl)).trans (rSim_row A B i i)

/-- The columns other than `i` in row `i`'s band. -/
def neg (a b : Fin 4096 → Fin 32 → EReal) (i j : Fin 4096) : Prop :=
  (score a b i j ≤ score a b i i * Consts.top ∧ score a b i i * Consts.bot ≤ score a b i j) ∧ j ≠ i

instance (a b : Fin 4096 → Fin 32 → EReal) (i : Fin 4096) : DecidablePred (neg a b i) := fun _ => Classical.propDecidable _

theorem rNeg_iff (i j : Fin 4096) : rNeg A B (ix2 i j) = 1#1 ↔ neg (rows A) (rows B) i j := by
  pointwise [rNeg]
  rw [rSim_row, rPos_row, Consts.ofBits_top, Consts.ofBits_bot, and_iff, and_iff, not_iff, rEye_iff,
    WordCmp.ofBool_decide_eq_one_iff, WordCmp.ofBool_decide_eq_one_iff, ← EReal.coe_mul, ← EReal.coe_mul, EReal.coe_le_coe_iff,
    EReal.coe_le_coe_iff]
  unfold neg
  exact and_congr Iff.rfl (not_congr eq_comm)

theorem rCand_row (i j : Fin 4096) : rCand A B (ix2 i j) = cand (score (rows A) (rows B) i) (neg (rows A) (rows B) i) j := by
  pointwise [rCand]
  have e : id (constant (F := Ideal) S_ FTy.f32 4286578688#32) ix0 = ⊥ := Consts.ofBits_neg_inf
  unfold Scalar.select cand
  rw [rSim_row, e]
  exact if_congr (rNeg_iff A B i j) rfl rfl

/-- Row `i`'s products in its band, minus infinity elsewhere. -/
abbrev cands (a b : Fin 4096 → Fin 32 → EReal) (i : Fin 4096) : Fin 4096 → EReal := cand (score a b i) (neg a b i)

/-- The columns of row `i`'s 129 greatest. -/
abbrev tops (a b : Fin 4096 → Fin 32 → EReal) (i : Fin 4096) : Finset (Fin 4096) := Top.first (by decide) (cands a b i)

/-- Row `i`'s `p`-th greatest column. -/
abbrev nth (a b : Fin 4096 → Fin 32 → EReal) (i : Fin 4096) (p : Fin 129) : Fin 4096 :=
  sortedFrom (Top.byVal (cands a b i)) ⟨p.val, by omega⟩

theorem rIdx_row (i : Fin 4096) (p : Fin 129) :
    rIdx A B (ix2 i p) = BitVec.ofNat 32 (nth (rows A) (rows B) i p).val := by
  unfold rIdx
  refine (Top.topK_idx _ (rCand A B) i p).trans ?_
  exact congrArg (fun v => BitVec.ofNat 32 (sortedFrom (Top.byVal v) ⟨p.val, by omega⟩ : Fin 4096).val)
    (funext fun j => rCand_row A B i j)

theorem rRows_row (i : Fin 4096) (p : Fin 129) : rRows (ix3 i p 0) = BitVec.ofNat 32 i.val := by
  have hi := i.isLt
  pointwise [rRows]
  exact Routing.wrap_of_lt _ _ (by rw [BitVec.toNat_ofNat]; omega)

theorem rCols_row (i : Fin 4096) (p : Fin 129) : rCols A B (ix3 i p 0) = BitVec.ofNat 32 (nth (rows A) (rows B) i p).val := by
  have hi := (nth (rows A) (rows B) i p).isLt
  pointwise [rCols]
  rw [rIdx_row]
  exact Routing.wrap_of_lt _ _ (by rw [BitVec.toNat_ofNat]; omega)

/-- The pairs the marks are written at. -/
def rPairs : IVec S4096x129x2 32 :=
  concatenate S4096x129x2 2 [⟨S4096x129x1, rRows⟩, ⟨S4096x129x1, (rCols A B)⟩] concatenates_S4096x129x1_S4096x129x1_S4096x129x2_d2

theorem rPairs_0 (i : Fin 4096) (p : Fin 129) : rPairs A B (ix3 i p 0) = BitVec.ofNat 32 i.val := by
  rw [← rRows_row i p]
  pointwise [rPairs]

theorem rPairs_1 (i : Fin 4096) (p : Fin 129) : rPairs A B (ix3 i p 1) = BitVec.ofNat 32 (nth (rows A) (rows B) i p).val := by
  rw [← rCols_row A B i p]
  pointwise [rPairs]

theorem toInt_word (n : ℕ) (h : n < 4096) : (BitVec.ofNat 32 n).toInt = (n : ℤ) := by
  rw [BitVec.toInt_eq_toNat_cond, BitVec.toNat_ofNat]
  split <;> omega

theorem lands (a : Fin 4096) (p : Fin 129) (i j : Fin 4096) :
    scatter_S4096x4096_S4096x129x2_S4096x129_n_01_01_2.resultIdx? (ix2 a p) (rPairs A B) = some (ix2 i j)
      ↔ a = i ∧ nth (rows A) (rows B) a p = j := by
  refine (Routing.scatter_lands2 scatter_S4096x4096_S4096x129x2_S4096x129_n_01_01_2 rfl rfl rfl (rPairs A B) a p i j).trans ?_
  have h0 : rPairs A B (ValueIdx.ix3 a p 0) = BitVec.ofNat 32 a.val := rPairs_0 A B a p
  have h1 : rPairs A B (ValueIdx.ix3 a p 1) = BitVec.ofNat 32 (nth (rows A) (rows B) a p).val := rPairs_1 A B a p
  rw [h0, h1, toInt_word _ a.isLt, toInt_word _ (nth (rows A) (rows B) a p).isLt, Fin.ext_iff, Fin.ext_iff]
  omega

theorem rHit_iff (i j : Fin 4096) : rHit A B (ix2 i j) = 1#1 ↔ j ∈ tops (rows A) (rows B) i := by
  rw [Top.mem_first]
  have e : rHit A B = Host.scatter scatter_S4096x4096_S4096x129x2_S4096x129_n_01_01_2 (fun _ b => b)
      (broadcastInDim S4096x4096 ![] bcast_S_S4096x4096 (constantI S_ 1 0#1)) (rPairs A B)
      (broadcastInDim S4096x129 ![] bcast_S_S4096x129 (constantI S_ 1 1#1)) := rfl
  rw [e]
  constructor
  · intro h
    by_contra hn
    rw [Routing.scatter_set_miss] at h
    · exact absurd h (by pointwise []; decide)
    · intro k hk
      refine hn ⟨k 1, ?_⟩
      have hk' : k = ix2 (k 0) (k 1) := by
        funext q
        fin_cases q <;> rfl
      rw [hk'] at hk
      obtain ⟨h0, h1⟩ := (lands A B (k 0) (k 1) i j).1 hk
      rw [h0] at h1
      exact h1
  · rintro ⟨p, hp⟩
    exact Routing.scatter_set_hit _ _ _ _ _ 1#1 (fun k _ => by pointwise []) (ix2 i p) ((lands A B i p i j).2 ⟨rfl, hp⟩)

theorem rMask_iff (i j : Fin 4096) : rMask A B (ix2 i j) = 1#1 ↔ j ∈ tops (rows A) (rows B) i ∧ j ≠ i := by
  pointwise [rMask]
  rw [and_iff, not_iff, rHit_iff, rEye_iff]
  exact and_congr Iff.rfl (not_congr eq_comm)

theorem rOk_row (i : Fin 4096) : rOk A B (ix1 i) = 1#1 := by
  have hc : (tops (rows A) (rows B) i).card = 129 := (Top.isTop_first (by decide) (cands (rows A) (rows B) i)).1
  obtain ⟨j, hj, hne⟩ := exists_mem_ne (s := tops (rows A) (rows B) i) (by rw [hc]; decide) i
  pointwise [rOk]
  rw [Routing.fold_ori]
  exact ⟨j, mem_univ j, (rMask_iff A B i j).2 ⟨hj, hne⟩⟩

theorem rCount_eq : rCount A B ix0 = ((4096 : ℝ) : EReal) := by
  pointwise [rCount]
  have h1 : FloatOps.uitofp (F := Ideal) FTy.f32 (1#1) = ((1 : ℝ) : EReal) := by
    show (((1#1 : BitVec 1).toNat : ℝ) : EReal) = _
    norm_num
  rw [sum_congr rfl fun x _ => (congrArg (FloatOps.uitofp (F := Ideal) FTy.f32) (rOk_row A B x)).trans h1, coe_sum, sum_const,
    card_univ, Fintype.card_fin, nsmul_eq_mul, mul_one]
  rfl

end Cert.ReferenceIdeal.Stage
end
-- ==== Proof.RefLoss.lean ====
/- The reference's loss. -/
module

public import proofs.«01_k».proof.Proof.RefRow

@[expose] public section

set_option maxRecDepth 16384

noncomputable section

namespace Cert.ReferenceIdeal.Stage

open Cert.ReferenceIdeal Cert.ReferenceIdeal.Gen Idealize.ShloMosaic Idealize.ShloMosaic.TcCoe Idealize.SL.Sem Idealize.ShloMosaic.StableHlo
open Cert.Row Cert.Norm Finset

variable (A B : FVec Ideal S4096x32 .f32)

/-- The reference's loss of row `i`. -/
def refE (a b : Fin 4096 → Fin 32 → EReal) (i : Fin 4096) : EReal :=
  Ideal.log ↑(refSum ex (score a b i) (tops a b i) i) - ↑(score a b i i * (100 / 7))

/-- The exponentials a row sums. -/
def rExp : FVec Ideal S4096x4096 .f32 :=
  Host.exp (select (ori (rMask A B) rEye) (Host.divf (rSim A B) (broadcastInDim S4096x4096 ![] bcast_S_S4096x4096 (Host.divf (constant S_ .f32 0x40E00000#32) (constant S_ .f32 0x42C80000#32)))) (broadcastInDim S4096x4096 ![] bcast_S_S4096x4096 (id (constant S_ .f32 0xFF800000#32))))

/-- Each row's diagonal product over the temperature. -/
def rPosT : FVec Ideal S4096 .f32 :=
  Host.divf (rPos A B) (broadcastInDim S4096 ![] bcast_S_S4096 (Host.divf (constant S_ .f32 0x40E00000#32) (constant S_ .f32 0x42C80000#32)))

theorem div_temp (x : ℝ) : Ideal.div (x : EReal) (Ideal.div ((7 : ℝ) : EReal) ((100 : ℝ) : EReal)) = ((x * (100 / 7) : ℝ) : EReal) := by
  rw [Ideal.div_coe (by norm_num), ← EReal.coe_mul, Ideal.div_coe (by norm_num), ← EReal.coe_mul]
  congr 2
  norm_num

theorem rPosT_row (i : Fin 4096) : rPosT A B (ix1 i) = ((score (rows A) (rows B) i i * (100 / 7) : ℝ) : EReal) := by
  rw [← div_temp, ← Consts.ofBits_7, ← Consts.ofBits_100, ← rPos_row]
  pointwise [rPosT]

theorem exp_gen (M E : IVec S4096x4096 1) (S : FVec Ideal S4096x4096 .f32) (i j : Fin 4096) :
    Host.exp (select (ori M E) (Host.divf S (broadcastInDim S4096x4096 ![] bcast_S_S4096x4096 (Host.divf (constant S_ .f32 0x40E00000#32) (constant S_ .f32 0x42C80000#32)))) (broadcastInDim S4096x4096 ![] bcast_S_S4096x4096 (id (constant S_ .f32 0xFF800000#32)))) (ix2 i j)
      = Ideal.exp (Scalar.select (IntOp.ori (M (ix2 i j)) (E (ix2 i j)))
      (Ideal.div (S (ix2 i j)) (Ideal.div (Ideal.ofBits .f32 0x40E00000#32) (Ideal.ofBits .f32 0x42C80000#32)))
      (Ideal.ofBits .f32 0xFF800000#32)) := by
  simp only [id]
  pointwise []

theorem rExp_read (i j : Fin 4096) : rExp A B (ix2 i j)
    = Ideal.exp (Scalar.select (IntOp.ori (rMask A B (ix2 i j)) (rEye (ix2 i j)))
      (Ideal.div (rSim A B (ix2 i j)) (Ideal.div (Ideal.ofBits .f32 0x40E00000#32) (Ideal.ofBits .f32 0x42C80000#32)))
      (Ideal.ofBits .f32 0xFF800000#32)) :=
  exp_gen (rMask A B) rEye (rSim A B) i j

theorem exp_pick (c : BitVec 1) (p : Prop) [Decidable p] (h : c = 1#1 ↔ p) (x : ℝ) :
    Ideal.exp (Scalar.select c ((x * (100 / 7) : ℝ) : EReal) ⊥) = ((if p then ex x else 0 : ℝ) : EReal) := by
  unfold Scalar.select
  by_cases q : p
  · rw [if_pos q]
    exact (congrArg Ideal.exp (if_pos (h.2 q))).trans (Ideal.exp_coe _)
  · rw [if_neg q]
    exact (congrArg Ideal.exp (if_neg fun h' => q (h.1 h'))).trans Ideal.exp_bot

theorem rExp_row (i j : Fin 4096) : rExp A B (ix2 i j)
    = (((if (j ∈ tops (rows A) (rows B) i ∧ j ≠ i) ∨ j = i then ex (score (rows A) (rows B) i j) else 0 : ℝ)) : EReal) := by
  rw [rExp_read, rSim_row, Consts.ofBits_7, Consts.ofBits_100, div_temp, Consts.ofBits_neg_inf]
  refine exp_pick _ _ ?_ _
  rw [or_iff, rMask_iff, rEye_iff]
  exact or_congr Iff.rfl eq_comm

theorem loss_gen (E : FVec Ideal S4096x4096 .f32) (P : FVec Ideal S4096 .f32) (i : Fin 4096) :
    subf (Host.log (Host.reduceAdd E (constant S_ .f32 0x00000000#32) reducesTo_S4096x4096_S4096_d1 h_S_)) P (ix1 i)
      = Ideal.log (∑ j, E (ix2 i j)) - P (ix1 i) := by
  pointwise []

theorem rLoss_row (i : Fin 4096) : rLoss A B (ix1 i) = refE (rows A) (rows B) i := by
  have e : rLoss A B = subf (Host.log (Host.reduceAdd (rExp A B) (constant S_ .f32 0x00000000#32) reducesTo_S4096x4096_S4096_d1 h_S_)) (rPosT A B) := by
    unfold rLoss rExp rPosT
    rfl
  rw [e, loss_gen, rPosT_row, sum_congr rfl fun j _ => rExp_row A B i j, coe_sum]
  unfold refE refSum
  congr

theorem out_gen (C : FVec Ideal S_ .f32) (O : IVec S4096 1) (L : FVec Ideal S4096 .f32) (l : Fin 4096 → EReal)
    (hC : C ix0 = ((4096 : ℝ) : EReal)) (hO : ∀ i, O (ix1 i) = 1#1) (hL : ∀ i, L (ix1 i) = l i) :
    select (cmpf .ogt C (constant S_ .f32 0x00000000#32)) (Host.divf (Host.reduceAdd (select O L (broadcastInDim S4096 ![] bcast_S_S4096 (id (constant S_ .f32 0x00000000#32)))) (constant S_ .f32 0x00000000#32) reducesTo_S4096_S_d0 h_S_) (maximumf C (constant S_ .f32 0x3F800000#32))) (id (constant S_ .f32 0x00000000#32)) ix0
      = Ideal.div (∑ i, l i) ((4096 : ℝ) : EReal) := by
  have h1 : (1 : EReal) ≤ ((4096 : ℝ) : EReal) := by
    rw [← EReal.coe_one]
    exact EReal.coe_le_coe_iff.2 (by norm_num)
  have h0 : (0 : EReal) < ((4096 : ℝ) : EReal) := lt_of_lt_of_le zero_lt_one h1
  generalize hR : (4096 : ℝ) = R at hC h1 h0 ⊢
  simp only [id]
  pointwise []
  simp only [hC, hO, hL]
  rw [if_pos h0, max_eq_left h1]
  exact congrArg (fun z => Ideal.div z _) (sum_congr rfl fun x _ => if_pos rfl)

theorem rOut_eq : rOut A B = fun _ => Ideal.div (∑ i, refE (rows A) (rows B) i) ((4096 : ℝ) : EReal) := by
  funext x
  have hx : x = ix0 := funext fun a => a.elim0
  subst hx
  exact out_gen (rCount A B) (rOk A B) (rLoss A B) _ (rCount_eq A B) (rOk_row A B) (rLoss_row A B)

end Cert.ReferenceIdeal.Stage
end
-- ==== Proof.PreRow.lean ====
/- What the precondition says of one row. -/
module

public import proofs.«01_k».proof.Proof.RefLoss
public import Idealize.ShloMosaic.Lib.IndicatorCount

@[expose] public section

set_option maxRecDepth 16384

noncomputable section

namespace Cert.Pre_separated

open Idealize.ShloMosaic

/-- The shapes the precondition's operations relate do so. -/
instance facts : Facts where
  reducesTo_S4096x32_S4096_d1 := by decide
  h_S_ := by decide
  bcast_S4096_S4096x1_0 := by decide
  bcast_S_S4096x1 := by decide
  bcast_S4096x1_S4096x32_0_1 := by decide
  transposes_S4096x32_S32x4096_1_0 := by decide
  bcast_S_S4096x4096 := by decide
  reducesTo_S4096x4096_S4096_d1 := by decide
  bcast_S4096x1_S4096x4096_0_1 := by decide
  sliceFits_S4096x4096_S4096x129 := by decide
  slices_S4096x129_S4096x1_0_128 := by decide
  bcast_S_S4096 := by decide
  natLt_1_32 := by decide
  dot_S4096x32_S32x4096_S4096x4096_1_0_0_1_n_n_wf := by decide

/-- The precondition's last tests at one row. -/
theorem part2_row (S : FVec Ideal S4096x4096 .f32) (P : FVec Ideal S4096 .f32) (N : IVec S4096x4096 1)
    (V : FVec Ideal S4096x129 .f32) (W : FVec Ideal S4096x1 .f32) (i : Fin 4096) :
    fn_part2 (F := Ideal) S P N V W (ix1 i)
      = IntOp.andi (BitVec.ofBool (decide (P (ix1 i) ≠ 0)))
        (IntOp.cmpi .sle (Finset.univ.fold IntOp.addi (0#32) fun j => (IntOp.andi (N (ix2 i j))
          (BitVec.ofBool (decide (V (ix2 i 128) - W (ix2 i 0) < S (ix2 i j))))).setWidth 32) 129#32) := by
  pointwise [fn_part2]

end Cert.Pre_separated

namespace Cert.ReferenceIdeal.Stage

open Cert.ReferenceIdeal Cert.ReferenceIdeal.Gen Idealize.ShloMosaic Idealize.ShloMosaic.TcCoe Idealize.SL.Sem Idealize.ShloMosaic.StableHlo
open Cert.Row Cert.Norm Finset

variable (A B : FVec Ideal S4096x32 .f32)

/-- Each row's 129 greatest products. -/
def rVals : FVec Ideal S4096x129 .f32 :=
  (Host.topK S4096x129 1 (FloatOps.cmpfTotal .gt) (rCand A B) sliceFits_S4096x4096_S4096x129).1

/-- Each row's final bracket width. -/
def rWidth : FVec Ideal S4096x1 .f32 :=
  Host.divf (subf (broadcastInDim S4096x1 ![0] bcast_S4096_S4096x1_0 (rPos A B)) (mulf (broadcastInDim S4096x1 ![0] bcast_S4096_S4096x1_0 (rPos A B)) (broadcastInDim S4096x1 ![] bcast_S_S4096x1 (constant S_ .f32 0x3D4CCCCD#32)))) (broadcastInDim S4096x1 ![] bcast_S_S4096x1 (constant S_ .f32 0x46000000#32))

theorem part1_eq : Cert.Pre_separated.fn_part1 (F := Ideal) (rSim A B) rEye (rPos A B)
    = Cert.Pre_separated.fn_part2 (F := Ideal) (rSim A B) (rPos A B) (rNeg A B) (rVals A B) (rWidth A B) := by
  unfold Cert.Pre_separated.fn_part1 Cert.Pre_separated.fn_where rVals rWidth rCand rNeg
  rfl

theorem rVals_row (i : Fin 4096) (p : Fin 129) :
    rVals A B (ix2 i p) = cands (rows A) (rows B) i (nth (rows A) (rows B) i p) := by
  unfold rVals
  refine (Top.topK_val _ (rCand A B) i p).trans ?_
  have e : (fun j => rCand A B (ix2 i j)) = cands (rows A) (rows B) i := funext fun j => rCand_row A B i j
  rw [e]
  exact rCand_row A B i _

theorem width_gen (P : FVec Ideal S4096 .f32) (i : Fin 4096) (p : ℝ) (h : P (ix1 i) = (p : EReal)) :
    Host.divf (subf (broadcastInDim S4096x1 ![0] bcast_S4096_S4096x1_0 P) (mulf (broadcastInDim S4096x1 ![0] bcast_S4096_S4096x1_0 P) (broadcastInDim S4096x1 ![] bcast_S_S4096x1 (constant S_ .f32 0x3D4CCCCD#32)))) (broadcastInDim S4096x1 ![] bcast_S_S4096x1 (constant S_ .f32 0x46000000#32)) (ix2 i 0)
      = (((p - p * Consts.bot) / 2 ^ 13 : ℝ) : EReal) := by
  pointwise []
  rw [h, Consts.ofBits_bot, Consts.ofBits_8192, ← EReal.coe_mul, ← EReal.coe_sub, Ideal.div_coe (by norm_num), ← EReal.coe_mul]
  refine congrArg _ ?_
  ring

/-- The last place of the 129. -/
abbrev place : Fin 129 := ⟨128, by decide⟩

theorem sep_row (h : Cert.Pre_separated.fn (F := Ideal) A B = fun _ => 1#1) (i : Fin 4096) :
    Sep Consts.bot (score (rows A) (rows B) i) (neg (rows A) (rows B) i) (score (rows A) (rows B) i i)
      (cands (rows A) (rows B) i (nth (rows A) (rows B) i place)) := by
  rw [pre_eq, part1_eq] at h
  have hi := congrFun h (ix1 i)
  rw [Cert.Pre_separated.part2_row, and_iff, WordCmp.ofBool_decide_eq_one_iff, rPos_row] at hi
  obtain ⟨hp, hc⟩ := hi
  refine ⟨fun e => hp (by rw [e]; rfl), ?_⟩
  rw [IndicatorCount.fold_addi_setWidth_eq_card] at hc
  have hw : rWidth A B (ix2 i 0) = _ := width_gen (rPos A B) i _ (rPos_row A B i)
  have hv : rVals A B (ix2 i 128) = _ := rVals_row A B i place
  have hle : ∀ S : Finset (Fin 4096), IntOp.cmpi .sle (BitVec.ofNat 32 S.card) 129#32 = 1#1 → S.card ≤ 129 := by
    intro S
    have hS : S.card ≤ 4096 := (card_le_univ S).trans (le_of_eq (Fintype.card_fin 4096))
    generalize S.card = c at *
    word_cmp
    try exact id
  have := hle _ hc
  refine le_trans (card_le_card fun j hj => ?_) this
  rw [mem_filter] at hj ⊢
  refine ⟨hj.1, ?_⟩
  rw [and_iff, rNeg_iff, WordCmp.ofBool_decide_eq_one_iff, hw, hv, rSim_row]
  exact hj.2

end Cert.ReferenceIdeal.Stage
end
-- ==== Proof.lean ====
/- The proof of the certificate's claim: the frames of the kernel and of both idealized programs, the kernel's ledger of
   named constants, and the equality of the kernel's loss with the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelSum
public import proofs.«01_k».proof.Proof.PreRow
public import Idealize.ShloMosaic.Adequacy
public import Idealize.ShloMosaic.Init

@[expose] public section

noncomputable section

namespace Cert.Proof

open Idealize.ShloMosaic Idealize.SL.Sem

/-- The reference runs from any memory, leaves its two arguments as they were, and has no counters. -/
theorem reference_frame : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- Both named constants have the table's real value. -/
theorem ledger : Cert.preserves_Kernel_KernelIdeal :=
  ⟨IdealRules.named_const.statement Cert.KernelIdeal.κ "inv_t_ln2" .f32 0x41A4E123#32 (((100 / 7) * (Real.log 2)⁻¹ : ℝ) : EReal) rfl,
   IdealRules.named_const.statement Cert.KernelIdeal.κ "inv_t" .f32 0x41649249#32 ((100 / 7 : ℝ) : EReal) rfl⟩

section Rows

open Cert.ReferenceIdeal.Stage

/-- A row's loss: the kernel's is the reference's. -/
theorem row_eq (A B : FVec Ideal Cert.ReferenceIdeal.S4096x32 .f32)
    (h : Cert.Pre_separated.fn (F := Ideal) A B = fun _ => 1#1) (i : Fin 4096) :
    Cert.KernelIdeal.Row.lossE (rows A) (rows B) i = refE (rows A) (rows B) i := by
  unfold Cert.KernelIdeal.Row.lossE refE
  rw [Cert.Row.kerSum_eq_refSum (by decide) Cert.Consts.bot_pos Cert.Consts.bot_lt_top Cert.Consts.top_lt_one Cert.Norm.ex
    (Cert.Norm.score (rows A) (rows B) i) i (Cert.Norm.abs_score_le _ _ _ _) (tops (rows A) (rows B) i)
    (cands (rows A) (rows B) i (nth (rows A) (rows B) i place)) (neg (rows A) (rows B) i) (fun _ => Iff.rfl)
    (Cert.Top.isTop_first _ _) (Cert.Top.last_mem _ _) (Cert.Top.last_le _ _) (sep_row A B h i)]

end Rows

/-- The kernel's loss is the reference's. -/
theorem algebraic : Cert.algebraic_KernelIdeal_ReferenceIdeal_pre_separated := by
  intro m ρ m' ρ' hpre hm
  refine ⟨_, Cert.KernelIdeal.Total.run m ρ, ?_⟩
  refine (θ_run Cert.ReferenceIdeal.defs _ _).mono (fun r h c => ⟨(h c).1.trans ?_, (h c).2⟩)
    (Cert.ReferenceIdeal.Value.run (F := Ideal) m' ρ')
  rw [Cert.ReferenceIdeal.Stage.res_eq, (hm c).1, (hm c).2, Cert.ReferenceIdeal.Stage.rOut_eq]
  funext x
  refine congrArg (fun z => Ideal.div z _) (Finset.sum_congr rfl fun i _ => ?_)
  exact (row_eq _ _ (hpre c) i).symm

theorem claim : Cert.Claim :=
  ⟨Cert.Kernel.Gen.facts, Cert.KernelIdeal.Gen.facts, Cert.ReferenceIdeal.Gen.facts, Cert.Pre_separated.facts,
    fun m ρ _ => Cert.Kernel.Gen.frame m ρ, fun m ρ _ => Cert.KernelIdeal.Gen.frame m ρ, fun m ρ _ => Cert.KernelIdeal.Gen.frame m ρ,
    reference_frame, fun m ρ _ => reference_frame m ρ trivial, ledger, algebraic⟩

end Cert.Proof

end
